-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![8, 512, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![8, 1024, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v113) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  natLt_1_32 : 1 < 32

variable [Facts]

def fn_part3 {F : FTy → Type} [FloatOps F] (main_arg1 : IVec S512 32) (main_v47 : IVec S_ 1) : IVec S_ 1 :=
  let main_c_23 : IVec S_ 32 := constantI S_ 32 7#32
  let main_v48 : IVec S512 32 := broadcastInDim S512 ![] bcast_S_S512 main_c_23
  let main_v49 : IVec S512 1 := cmpi .eq main_arg1 main_v48
  let main_v50 : IVec S512 32 := (extui 32 · natLt_1_32) main_v49
  let main_c_24 : IVec S_ 32 := constantI S_ 32 0#32
  let main_v51 : IVec S_ 32 := (fun x v => Host.reduce IntOp.addi x v reducesTo_S512_S_d0 h_S_) main_v50 main_c_24
  let main_c_25 : IVec S_ 32 := constantI S_ 32 96#32
  let main_v52 : IVec S_ 1 := cmpi .sle main_v51 main_c_25
  let main_v53 : IVec S_ 1 := andi main_v47 main_v52
  main_v53

def fn_part2 {F : FTy → Type} [FloatOps F] (main_arg1 : IVec S512 32) (main_v29 : IVec S_ 1) (main_v31 : IVec S512 1) : IVec S_ 1 :=
  let main_v32 : IVec S512 32 := (extui 32 · natLt_1_32) main_v31
  let main_c_15 : IVec S_ 32 := constantI S_ 32 0#32
  let main_v33 : IVec S_ 32 := (fun x v => Host.reduce IntOp.addi x v reducesTo_S512_S_d0 h_S_) main_v32 main_c_15
  let main_c_16 : IVec S_ 32 := constantI S_ 32 96#32
  let main_v34 : IVec S_ 1 := cmpi .sle main_v33 main_c_16
  let main_v35 : IVec S_ 1 := andi main_v29 main_v34
  let main_c_17 : IVec S_ 32 := constantI S_ 32 5#32
  let main_v36 : IVec S512 32 := broadcastInDim S512 ![] bcast_S_S512 main_c_17
  let main_v37 : IVec S512 1 := cmpi .eq main_arg1 main_v36
  let main_v38 : IVec S512 32 := (extui 32 · natLt_1_32) main_v37
  let main_c_18 : IVec S_ 32 := constantI S_ 32 0#32
  let main_v39 : IVec S_ 32 := (fun x v => Host.reduce IntOp.addi x v reducesTo_S512_S_d0 h_S_) main_v38 main_c_18
  let main_c_19 : IVec S_ 32 := constantI S_ 32 96#32
  let main_v40 : IVec S_ 1 := cmpi .sle main_v39 main_c_19
  let main_v41 : IVec S_ 1 := andi main_v35 main_v40
  let main_c_20 : IVec S_ 32 := constantI S_ 32 6#32
  let main_v42 : IVec S512 32 := broadcastInDim S512 ![] bcast_S_S512 main_c_20
  let main_v43 : IVec S512 1 := cmpi .eq main_arg1 main_v42
  let main_v44 : IVec S512 32 := (extui 32 · natLt_1_32) main_v43
  let main_c_21 : IVec S_ 32 := constantI S_ 32 0#32
  let main_v45 : IVec S_ 32 := (fun x v => Host.reduce IntOp.addi x v reducesTo_S512_S_d0 h_S_) main_v44 main_c_21
  let main_c_22 : IVec S_ 32 := constantI S_ 32 96#32
  let main_v46 : IVec S_ 1 := cmpi .sle main_v45 main_c_22
  let main_v47 : IVec S_ 1 := andi main_v41 main_v46
  fn_part3 (F := F) main_arg1 main_v47

def fn_part1 {F : FTy → Type} [FloatOps F] (main_arg1 : IVec S512 32) (main_v11 : IVec S_ 1) (main_v15 : IVec S_ 32) : IVec S_ 1 :=
  let main_c_7 : IVec S_ 32 := constantI S_ 32 96#32
  let main_v16 : IVec S_ 1 := cmpi .sle main_v15 main_c_7
  let main_v17 : IVec S_ 1 := andi main_v11 main_v16
  let main_c_8 : IVec S_ 32 := constantI S_ 32 2#32
  let main_v18 : IVec S512 32 := broadcastInDim S512 ![] bcast_S_S512 main_c_8
  let main_v19 : IVec S512 1 := cmpi .eq main_arg1 main_v18
  let main_v20 : IVec S512 32 := (extui 32 · natLt_1_32) main_v19
  let main_c_9 : IVec S_ 32 := constantI S_ 32 0#32
  let main_v21 : IVec S_ 32 := (fun x v => Host.reduce IntOp.addi x v reducesTo_S512_S_d0 h_S_) main_v20 main_c_9
  let main_c_10 : IVec S_ 32 := constantI S_ 32 96#32
  let main_v22 : IVec S_ 1 := cmpi .sle main_v21 main_c_10
  let main_v23 : IVec S_ 1 := andi main_v17 main_v22
  let main_c_11 : IVec S_ 32 := constantI S_ 32 3#32
  let main_v24 : IVec S512 32 := broadcastInDim S512 ![] bcast_S_S512 main_c_11
  let main_v25 : IVec S512 1 := cmpi .eq main_arg1 main_v24
  let main_v26 : IVec S512 32 := (extui 32 · natLt_1_32) main_v25
  let main_c_12 : IVec S_ 32 := constantI S_ 32 0#32
  let main_v27 : IVec S_ 32 := (fun x v => Host.reduce IntOp.addi x v reducesTo_S512_S_d0 h_S_) main_v26 main_c_12
  let main_c_13 : IVec S_ 32 := constantI S_ 32 96#32
  let main_v28 : IVec S_ 1 := cmpi .sle main_v27 main_c_13
  let main_v29 : IVec S_ 1 := andi main_v23 main_v28
  let main_c_14 : IVec S_ 32 := constantI S_ 32 4#32
  let main_v30 : IVec S512 32 := broadcastInDim S512 ![] bcast_S_S512 main_c_14
  let main_v31 : IVec S512 1 := cmpi .eq main_arg1 main_v30
  fn_part2 (F := F) main_arg1 main_v29 main_v31

def fn {F : FTy → Type} [FloatOps F] (main_arg0 : FVec F S512x512 .bf16) (main_arg1 : IVec S512 32) (main_arg2 : FVec F S2x512x1024 .bf16) (main_arg3 : FVec F S2x1024x512 .bf16) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 8#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  let main_c_2 : IVec S_ 32 := constantI S_ 32 0#32
  let main_v6 : IVec S512 32 := broadcastInDim S512 ![] bcast_S_S512 main_c_2
  let main_v7 : IVec S512 1 := cmpi .eq main_arg1 main_v6
  let main_v8 : IVec S512 32 := (extui 32 · natLt_1_32) main_v7
  let main_c_3 : IVec S_ 32 := constantI S_ 32 0#32
  let main_v9 : IVec S_ 32 := (fun x v => Host.reduce IntOp.addi x v reducesTo_S512_S_d0 h_S_) main_v8 main_c_3
  let main_c_4 : IVec S_ 32 := constantI S_ 32 96#32
  let main_v10 : IVec S_ 1 := cmpi .sle main_v9 main_c_4
  let main_v11 : IVec S_ 1 := andi main_v5 main_v10
  let main_c_5 : IVec S_ 32 := constantI S_ 32 1#32
  let main_v12 : IVec S512 32 := broadcastInDim S512 ![] bcast_S_S512 main_c_5
  let main_v13 : IVec S512 1 := cmpi .eq main_arg1 main_v12
  let main_v14 : IVec S512 32 := (extui 32 · natLt_1_32) main_v13
  let main_c_6 : IVec S_ 32 := constantI S_ 32 0#32
  let main_v15 : IVec S_ 32 := (fun x v => Host.reduce IntOp.addi x v reducesTo_S512_S_d0 h_S_) main_v14 main_c_6
  fn_part1 (F := F) main_arg1 main_v11 main_v15
-- ==== Pre_fits_ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  natLt_1_32 : 1 < 32

variable [Facts]

def fn_part3 {F : FTy → Type} [FloatOps F] (main_arg1 : IVec S2048 32) (main_v47 : IVec S_ 1) : IVec S_ 1 :=
  let main_c_23 : IVec S_ 32 := constantI S_ 32 7#32
  let main_v48 : IVec S2048 32 := broadcastInDim S2048 ![] bcast_S_S2048 main_c_23
  let main_v49 : IVec S2048 1 := cmpi .eq main_arg1 main_v48
  let main_v50 : IVec S2048 32 := (extui 32 · natLt_1_32) main_v49
  let main_c_24 : IVec S_ 32 := constantI S_ 32 0#32
  let main_v51 : IVec S_ 32 := (fun x v => Host.reduce IntOp.addi x v reducesTo_S2048_S_d0 h_S_) main_v50 main_c_24
  let main_c_25 : IVec S_ 32 := constantI S_ 32 96#32
  let main_v52 : IVec S_ 1 := cmpi .sle main_v51 main_c_25
  let main_v53 : IVec S_ 1 := andi main_v47 main_v52
  main_v53

def fn_part2 {F : FTy → Type} [FloatOps F] (main_arg1 : IVec S2048 32) (main_v29 : IVec S_ 1) (main_v31 : IVec S2048 1) : IVec S_ 1 :=
  let main_v32 : IVec S2048 32 := (extui 32 · natLt_1_32) main_v31
  let main_c_15 : IVec S_ 32 := constantI S_ 32 0#32
  let main_v33 : IVec S_ 32 := (fun x v => Host.reduce IntOp.addi x v reducesTo_S2048_S_d0 h_S_) main_v32 main_c_15
  let main_c_16 : IVec S_ 32 := constantI S_ 32 96#32
  let main_v34 : IVec S_ 1 := cmpi .sle main_v33 main_c_16
  let main_v35 : IVec S_ 1 := andi main_v29 main_v34
  let main_c_17 : IVec S_ 32 := constantI S_ 32 5#32
  let main_v36 : IVec S2048 32 := broadcastInDim S2048 ![] bcast_S_S2048 main_c_17
  let main_v37 : IVec S2048 1 := cmpi .eq main_arg1 main_v36
  let main_v38 : IVec S2048 32 := (extui 32 · natLt_1_32) main_v37
  let main_c_18 : IVec S_ 32 := constantI S_ 32 0#32
  let main_v39 : IVec S_ 32 := (fun x v => Host.reduce IntOp.addi x v reducesTo_S2048_S_d0 h_S_) main_v38 main_c_18
  let main_c_19 : IVec S_ 32 := constantI S_ 32 96#32
  let main_v40 : IVec S_ 1 := cmpi .sle main_v39 main_c_19
  let main_v41 : IVec S_ 1 := andi main_v35 main_v40
  let main_c_20 : IVec S_ 32 := constantI S_ 32 6#32
  let main_v42 : IVec S2048 32 := broadcastInDim S2048 ![] bcast_S_S2048 main_c_20
  let main_v43 : IVec S2048 1 := cmpi .eq main_arg1 main_v42
  let main_v44 : IVec S2048 32 := (extui 32 · natLt_1_32) main_v43
  let main_c_21 : IVec S_ 32 := constantI S_ 32 0#32
  let main_v45 : IVec S_ 32 := (fun x v => Host.reduce IntOp.addi x v reducesTo_S2048_S_d0 h_S_) main_v44 main_c_21
  let main_c_22 : IVec S_ 32 := constantI S_ 32 96#32
  let main_v46 : IVec S_ 1 := cmpi .sle main_v45 main_c_22
  let main_v47 : IVec S_ 1 := andi main_v41 main_v46
  fn_part3 (F := F) main_arg1 main_v47

def fn_part1 {F : FTy → Type} [FloatOps F] (main_arg1 : IVec S2048 32) (main_v11 : IVec S_ 1) (main_v15 : IVec S_ 32) : IVec S_ 1 :=
  let main_c_7 : IVec S_ 32 := constantI S_ 32 96#32
  let main_v16 : IVec S_ 1 := cmpi .sle main_v15 main_c_7
  let main_v17 : IVec S_ 1 := andi main_v11 main_v16
  let main_c_8 : IVec S_ 32 := constantI S_ 32 2#32
  let main_v18 : IVec S2048 32 := broadcastInDim S2048 ![] bcast_S_S2048 main_c_8
  let main_v19 : IVec S2048 1 := cmpi .eq main_arg1 main_v18
  let main_v20 : IVec S2048 32 := (extui 32 · natLt_1_32) main_v19
  let main_c_9 : IVec S_ 32 := constantI S_ 32 0#32
  let main_v21 : IVec S_ 32 := (fun x v => Host.reduce IntOp.addi x v reducesTo_S2048_S_d0 h_S_) main_v20 main_c_9
  let main_c_10 : IVec S_ 32 := constantI S_ 32 96#32
  let main_v22 : IVec S_ 1 := cmpi .sle main_v21 main_c_10
  let main_v23 : IVec S_ 1 := andi main_v17 main_v22
  let main_c_11 : IVec S_ 32 := constantI S_ 32 3#32
  let main_v24 : IVec S2048 32 := broadcastInDim S2048 ![] bcast_S_S2048 main_c_11
  let main_v25 : IVec S2048 1 := cmpi .eq main_arg1 main_v24
  let main_v26 : IVec S2048 32 := (extui 32 · natLt_1_32) main_v25
  let main_c_12 : IVec S_ 32 := constantI S_ 32 0#32
  let main_v27 : IVec S_ 32 := (fun x v => Host.reduce IntOp.addi x v reducesTo_S2048_S_d0 h_S_) main_v26 main_c_12
  let main_c_13 : IVec S_ 32 := constantI S_ 32 96#32
  let main_v28 : IVec S_ 1 := cmpi .sle main_v27 main_c_13
  let main_v29 : IVec S_ 1 := andi main_v23 main_v28
  let main_c_14 : IVec S_ 32 := constantI S_ 32 4#32
  let main_v30 : IVec S2048 32 := broadcastInDim S2048 ![] bcast_S_S2048 main_c_14
  let main_v31 : IVec S2048 1 := cmpi .eq main_arg1 main_v30
  fn_part2 (F := F) main_arg1 main_v29 main_v31

def fn {F : FTy → Type} [FloatOps F] (main_arg0 : FVec F S2048x512 .bf16) (main_arg1 : IVec S2048 32) (main_arg2 : FVec F S8x512x1024 .bf16) (main_arg3 : FVec F S8x1024x512 .bf16) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 8#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_c_2 : IVec S_ 32 := constantI S_ 32 0#32
  let main_v6 : IVec S2048 32 := broadcastInDim S2048 ![] bcast_S_S2048 main_c_2
  let main_v7 : IVec S2048 1 := cmpi .eq main_arg1 main_v6
  let main_v8 : IVec S2048 32 := (extui 32 · natLt_1_32) main_v7
  let main_c_3 : IVec S_ 32 := constantI S_ 32 0#32
  let main_v9 : IVec S_ 32 := (fun x v => Host.reduce IntOp.addi x v reducesTo_S2048_S_d0 h_S_) main_v8 main_c_3
  let main_c_4 : IVec S_ 32 := constantI S_ 32 96#32
  let main_v10 : IVec S_ 1 := cmpi .sle main_v9 main_c_4
  let main_v11 : IVec S_ 1 := andi main_v5 main_v10
  let main_c_5 : IVec S_ 32 := constantI S_ 32 1#32
  let main_v12 : IVec S2048 32 := broadcastInDim S2048 ![] bcast_S_S2048 main_c_5
  let main_v13 : IVec S2048 1 := cmpi .eq main_arg1 main_v12
  let main_v14 : IVec S2048 32 := (extui 32 · natLt_1_32) main_v13
  let main_c_6 : IVec S_ 32 := constantI S_ 32 0#32
  let main_v15 : IVec S_ 32 := (fun x v => Host.reduce IntOp.addi x v reducesTo_S2048_S_d0 h_S_) main_v14 main_c_6
  fn_part1 (F := F) main_arg1 main_v11 main_v15
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S3x192x512 : Shape := ⟨3, ![3, 192, 512]⟩
abbrev S3 : Shape := ⟨1, ![3]⟩
abbrev S_ : Shape := ⟨0, ![]⟩
abbrev S1x512 : Shape := ⟨2, ![1, 512]⟩
abbrev S512x1 : Shape := ⟨2, ![512, 1]⟩
abbrev S192x1 : Shape := ⟨2, ![192, 1]⟩
abbrev S1x192 : Shape := ⟨2, ![1, 192]⟩
abbrev S8x1 : Shape := ⟨2, ![8, 1]⟩
abbrev S8x512 : Shape := ⟨2, ![8, 512]⟩
abbrev S1x8 : Shape := ⟨2, ![1, 8]⟩
abbrev S512x8 : Shape := ⟨2, ![512, 8]⟩
abbrev S192x512 : Shape := ⟨2, ![192, 512]⟩
abbrev S512x192 : Shape := ⟨2, ![512, 192]⟩
abbrev S1x192x512 : Shape := ⟨3, ![1, 192, 512]⟩
abbrev S1 : Shape := ⟨1, ![1]⟩
abbrev S1x512x1024 : Shape := ⟨3, ![1, 512, 1024]⟩
abbrev S512x1024 : Shape := ⟨2, ![512, 1024]⟩
abbrev S512x2048 : Shape := ⟨2, ![512, 2048]⟩
abbrev S2048x512 : Shape := ⟨2, ![2048, 512]⟩
abbrev S1x2048 : Shape := ⟨2, ![1, 2048]⟩
abbrev S192x2048 : Shape := ⟨2, ![192, 2048]⟩

abbrev nBuf : Space → Nat
  | .hbm => 5
  | .vmem => 9
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x512, .f32⟩
  | .local _ .vmem, ⟨0, _⟩ => ⟨S512x512, .bf16⟩
  | .local _ .vmem, ⟨1, _⟩ => ⟨S512, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .f32⟩
  | .local _ .vmem, ⟨5, _⟩ => ⟨S3x192x512, .bf16⟩
  | .local _ .vmem, ⟨6, _⟩ => ⟨S3x192x512, .bf16⟩
  | .local _ .vmem, ⟨7, _⟩ => ⟨S3x192x512, .bf16⟩
  | .local _ .vmem, ⟨8, _⟩ => ⟨S3x192x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v111 : BitVec 32 := Scalar.addi v2 c1_i32_27
  let c4_i32_28 : BitVec 32 := 4#32
  let v112 : BitVec 32 := Scalar.remsi v111 c4_i32_28
  let c1_i32_33 : BitVec 32 := 1#32
  let v113 : BitVec 32 := Scalar.muli v112 c1_i32_33
  let v114 : BitVec 32 := Scalar.addi c0_i32_34 v113
  v114.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_44 : BitVec 32 := 2#32
  let v168 : BitVec 32 := Scalar.addi v2 c2_i32_44
  let c4_i32_45 : BitVec 32 := 4#32
  let v169 : BitVec 32 := Scalar.remsi v168 c4_i32_45
  let c1_i32_50 : BitVec 32 := 1#32
  let v170 : BitVec 32 := Scalar.muli v169 c1_i32_50
  let v171 : BitVec 32 := Scalar.addi c0_i32_51 v170
  v171.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_61 : BitVec 32 := 3#32
  let v225 : BitVec 32 := Scalar.addi v2 c3_i32_61
  let c4_i32_62 : BitVec 32 := 4#32
  let v226 : BitVec 32 := Scalar.remsi v225 c4_i32_62
  let c1_i32_67 : BitVec 32 := 1#32
  let v227 : BitVec 32 := Scalar.muli v226 c1_i32_67
  let v228 : BitVec 32 := Scalar.addi c0_i32_68 v227
  v228.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_122 : BitVec 32 := 0#32
  let v369 : BitVec 32 := Scalar.addi v2 c0_i32_122
  let c1_i32_123 : BitVec 32 := 1#32
  let v370 : BitVec 32 := Scalar.addi v369 c1_i32_123
  let c4_i32_124 : BitVec 32 := 4#32
  let v371 : BitVec 32 := Scalar.remsi v370 c4_i32_124
  let c1_i32_129 : BitVec 32 := 1#32
  let v372 : BitVec 32 := Scalar.muli v371 c1_i32_129
  let v373 : BitVec 32 := Scalar.addi c0_i32_130 v372
  v373.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_155 : BitVec 32 := 1#32
  let v403 : BitVec 32 := Scalar.addi v2 c1_i32_155
  let c1_i32_156 : BitVec 32 := 1#32
  let v404 : BitVec 32 := Scalar.addi v403 c1_i32_156
  let c4_i32_157 : BitVec 32 := 4#32
  let v405 : BitVec 32 := Scalar.remsi v404 c4_i32_157
  let c1_i32_162 : BitVec 32 := 1#32
  let v406 : BitVec 32 := Scalar.muli v405 c1_i32_162
  let v407 : BitVec 32 := Scalar.addi c0_i32_163 v406
  v407.toNat
def k0_dev9 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_188 : BitVec 32 := 2#32
  let v437 : BitVec 32 := Scalar.addi v2 c2_i32_188
  let c1_i32_189 : BitVec 32 := 1#32
  let v438 : BitVec 32 := Scalar.addi v437 c1_i32_189
  let c4_i32_190 : BitVec 32 := 4#32
  let v439 : BitVec 32 := Scalar.remsi v438 c4_i32_190
  let c1_i32_195 : BitVec 32 := 1#32
  let v440 : BitVec 32 := Scalar.muli v439 c1_i32_195
  let v441 : BitVec 32 := Scalar.addi c0_i32_196 v440
  v441.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S_ : Shape := ⟨0, ![]⟩
abbrev S1x512x1024 : Shape := ⟨3, ![1, 512, 1024]⟩
abbrev S512x1024 : Shape := ⟨2, ![512, 1024]⟩
abbrev S2048x1024 : Shape := ⟨2, ![2048, 1024]⟩
abbrev S1x1024x512 : Shape := ⟨3, ![1, 1024, 512]⟩
abbrev S1024x512 : Shape := ⟨2, ![1024, 512]⟩
abbrev S2048x1 : Shape := ⟨2, ![2048, 1]⟩

abbrev nBuf : Space → Nat
  | .hbm => 143
  | .vmem => 0
  | .smem => 0
  | _ => 0

abbrev hbmTy0_0 (i : Nat) : BufTy := match i % 128 with
  | 0 => ⟨S2048x512, .bf16⟩
  | 1 => ⟨S2048, .i32⟩
  | 2 => ⟨S8x512x1024, .bf16⟩
  | 3 => ⟨S8x1024x512, .bf16⟩
  | 4 => ⟨S2048x512, .f32⟩
  | 5 => ⟨S_, .f32⟩
  | 6 => ⟨S2048x512, .f32⟩
  | 7 => ⟨S_, .i32⟩
  | 8 => ⟨S2048, .i32⟩
  | 9 => ⟨S2048, .i1⟩
  | 10 => ⟨S1x512x1024, .bf16⟩
  | 11 => ⟨S512x1024, .bf16⟩
  | 12 => ⟨S512x1024, .f32⟩
  | 13 => ⟨S2048x1024, .f32⟩
  | 14 => ⟨S_, .f32⟩
  | 15 => ⟨S2048x1024, .f32⟩
  | 16 => ⟨S2048x1024, .f32⟩
  | 17 => ⟨S1x1024x512, .bf16⟩
  | 18 => ⟨S1024x512, .bf16⟩
  | 19 => ⟨S1024x512, .f32⟩
  | 20 => ⟨S2048x512, .f32⟩
  | 21 => ⟨S2048x1, .i1⟩
  | 22 => ⟨S2048x512, .i1⟩
  | 23 => ⟨S2048x512, .f32⟩
  | 24 => ⟨S_, .i32⟩
  | 25 => ⟨S2048, .i32⟩
  | 26 => ⟨S2048, .i1⟩
  | 27 => ⟨S1x512x1024, .bf16⟩
  | 28 => ⟨S512x1024, .bf16⟩
  | 29 => ⟨S512x1024, .f32⟩
  | 30 => ⟨S2048x1024, .f32⟩
  | 31 => ⟨S_, .f32⟩
  | 32 => ⟨S2048x1024, .f32⟩
  | 33 => ⟨S2048x1024, .f32⟩
  | 34 => ⟨S1x1024x512, .bf16⟩
  | 35 => ⟨S1024x512, .bf16⟩
  | 36 => ⟨S1024x512, .f32⟩
  | 37 => ⟨S2048x512, .f32⟩
  | 38 => ⟨S2048x1, .i1⟩
  | 39 => ⟨S2048x512, .i1⟩
  | 40 => ⟨S2048x512, .f32⟩
  | 41 => ⟨S_, .i32⟩
  | 42 => ⟨S2048, .i32⟩
  | 43 => ⟨S2048, .i1⟩
  | 44 => ⟨S1x512x1024, .bf16⟩
  | 45 => ⟨S512x1024, .bf16⟩
  | 46 => ⟨S512x1024, .f32⟩
  | 47 => ⟨S2048x1024, .f32⟩
  | 48 => ⟨S_, .f32⟩
  | 49 => ⟨S2048x1024, .f32⟩
  | 50 => ⟨S2048x1024, .f32⟩
  | 51 => ⟨S1x1024x512, .bf16⟩
  | 52 => ⟨S1024x512, .bf16⟩
  | 53 => ⟨S1024x512, .f32⟩
  | 54 => ⟨S2048x512, .f32⟩
  | 55 => ⟨S2048x1, .i1⟩
  | 56 => ⟨S2048x512, .i1⟩
  | 57 => ⟨S2048x512, .f32⟩
  | 58 => ⟨S_, .i32⟩
  | 59 => ⟨S2048, .i32⟩
  | 60 => ⟨S2048, .i1⟩
  | 61 => ⟨S1x512x1024, .bf16⟩
  | 62 => ⟨S512x1024, .bf16⟩
  | 63 => ⟨S512x1024, .f32⟩
  | 64 => ⟨S2048x1024, .f32⟩
  | 65 => ⟨S_, .f32⟩
  | 66 => ⟨S2048x1024, .f32⟩
  | 67 => ⟨S2048x1024, .f32⟩
  | 68 => ⟨S1x1024x512, .bf16⟩
  | 69 => ⟨S1024x512, .bf16⟩
  | 70 => ⟨S1024x512, .f32⟩
  | 71 => ⟨S2048x512, .f32⟩
  | 72 => ⟨S2048x1, .i1⟩
  | 73 => ⟨S2048x512, .i1⟩
  | 74 => ⟨S2048x512, .f32⟩
  | 75 => ⟨S_, .i32⟩
  | 76 => ⟨S2048, .i32⟩
  | 77 => ⟨S2048, .i1⟩
  | 78 => ⟨S1x512x1024, .bf16⟩
  | 79 => ⟨S512x1024, .bf16⟩
  | 80 => ⟨S512x1024, .f32⟩
  | 81 => ⟨S2048x1024, .f32⟩
  | 82 => ⟨S_, .f32⟩
  | 83 => ⟨S2048x1024, .f32⟩
  | 84 => ⟨S2048x1024, .f32⟩
  | 85 => ⟨S1x1024x512, .bf16⟩
  | 86 => ⟨S1024x512, .bf16⟩
  | 87 => ⟨S1024x512, .f32⟩
  | 88 => ⟨S2048x512, .f32⟩
  | 89 => ⟨S2048x1, .i1⟩
  | 90 => ⟨S2048x512, .i1⟩
  | 91 => ⟨S2048x512, .f32⟩
  | 92 => ⟨S_, .i32⟩
  | 93 => ⟨S2048, .i32⟩
  | 94 => ⟨S2048, .i1⟩
  | 95 => ⟨S1x512x1024, .bf16⟩
  | 96 => ⟨S512x1024, .bf16⟩
  | 97 => ⟨S512x1024, .f32⟩
  | 98 => ⟨S2048x1024, .f32⟩
  | 99 => ⟨S_, .f32⟩
  | 100 => ⟨S2048x1024, .f32⟩
  | 101 => ⟨S2048x1024, .f32⟩
  | 102 => ⟨S1x1024x512, .bf16⟩
  | 103 => ⟨S1024x512, .bf16⟩
  | 104 => ⟨S1024x512, .f32⟩
  | 105 => ⟨S2048x512, .f32⟩
  | 106 => ⟨S2048x1, .i1⟩
  | 107 => ⟨S2048x512, .i1⟩
  | 108 => ⟨S2048x512, .f32⟩
  | 109 => ⟨S_, .i32⟩
  | 110 => ⟨S2048, .i32⟩
  | 111 => ⟨S2048, .i1⟩
  | 112 => ⟨S1x512x1024, .bf16⟩
  | 113 => ⟨S512x1024, .bf16⟩
  | 114 => ⟨S512x1024, .f32⟩
  | 115 => ⟨S2048x1024, .f32⟩
  | 116 => ⟨S_, .f32⟩
  | 117 => ⟨S2048x1024, .f32⟩
  | 118 => ⟨S2048x1024, .f32⟩
  | 119 => ⟨S1x1024x512, .bf16⟩
  | 120 => ⟨S1024x512, .bf16⟩
  | 121 => ⟨S1024x512, .f32⟩
  | 122 => ⟨S2048x512, .f32⟩
  | 123 => ⟨S2048x1, .i1⟩
  | 124 => ⟨S2048x512, .i1⟩
  | 125 => ⟨S2048x512, .f32⟩
  | 126 => ⟨S_, .i32⟩
  | 127 => ⟨S2048, .i32⟩
  | _ => ⟨S2048x512, .bf16⟩

abbrev hbmTy0_1 (i : Nat) : BufTy := match i % 128 with
  | 0 => ⟨S2048, .i1⟩
  | 1 => ⟨S1x512x1024, .bf16⟩
  | 2 => ⟨S512x1024, .bf16⟩
  | 3 => ⟨S512x1024, .f32⟩
  | 4 => ⟨S2048x1024, .f32⟩
  | 5 => ⟨S_, .f32⟩
  | 6 => ⟨S2048x1024, .f32⟩
  | 7 => ⟨S2048x1024, .f32⟩
  | 8 => ⟨S1x1024x512, .bf16⟩
  | 9 => ⟨S1024x512, .bf16⟩
  | 10 => ⟨S1024x512, .f32⟩
  | 11 => ⟨S2048x512, .f32⟩
  | 12 => ⟨S2048x1, .i1⟩
  | 13 => ⟨S2048x512, .i1⟩
  | 14 => ⟨S2048x512, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call2_v0 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call3_v0 : Ref sig .tc := ⟨.hbm, 73, rfl⟩
abbrev main_v57 : Ref sig .tc := ⟨.hbm, 74, rfl⟩
abbrev main_c_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call4_v0 : Ref sig .tc := ⟨.hbm, 90, rfl⟩
abbrev main_v71 : Ref sig .tc := ⟨.hbm, 91, rfl⟩
abbrev main_c_9 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_call5_v0 : Ref sig .tc := ⟨.hbm, 107, rfl⟩
abbrev main_v85 : Ref sig .tc := ⟨.hbm, 108, rfl⟩
abbrev main_c_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_call6_v0 : Ref sig .tc := ⟨.hbm, 124, rfl⟩
abbrev main_v99 : Ref sig .tc := ⟨.hbm, 125, rfl⟩
abbrev main_c_13 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_14 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_call7_v0 : Ref sig .tc := ⟨.hbm, 141, rfl⟩
abbrev main_v113 : Ref sig .tc := ⟨.hbm, 142, rfl⟩

abbrev nD : Nat := 1
abbrev τ : Topo := Topo.v7x

variable {F : FTy → Type} [FloatOps F]
-- ==== Proof.KernelIdealProto.lean ====
/-
The protocol of the expert exchange on four devices.

Every device owns thirteen semaphore cells: the runtime's barrier cell and, for each of the three slots of a transfer
buffer, one send cell and one receive cell of the outgoing tokens and of the returned results. This file names the
devices, the buffers' slots, the cells and what each cell's signal hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own ghost state: rounds over the machine's semaphores, duties numbered by slot. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at launch: any memory, every counter zero. -/
def s₀ : MemSt nD τ sig (Elt F) := ⟨m, fun _ => 0, ρ⟩

/-! ## Devices -/

set_option backward.proofsInPublic true in
/-- The device `i + 1` places after `c`. -/
def up (i : Fin 3) (c : Dev nD) : Dev nD := ⟨(c.val + (i.val + 1)) % 4, Nat.mod_lt _ (by decide)⟩

/-- The slot on the other side: what `c` sends from slot `i` lands in slot `rv i` of `up i c`. -/
abbrev rv (i : Fin 3) : Fin 3 := Fin.rev i

theorem up_rv (i : Fin 3) (c : Dev nD) : up (rv i) (up i c) = c := by revert i c; decide
theorem up_rv' (i : Fin 3) (c : Dev nD) : up i (up (rv i) c) = c := by revert i c; decide
theorem rv_rv (i : Fin 3) : rv (rv i) = i := Fin.rev_rev i

theorem dev1_eq (c : Dev nD) : (⟨k0_dev1 c, k0_dev1_lt c⟩ : Dev nD) = up 0 c := Fin.ext (k0_dev1_eq c)
theorem dev2_eq (c : Dev nD) : (⟨k0_dev2 c, k0_dev2_lt c⟩ : Dev nD) = up 1 c := Fin.ext (k0_dev2_eq c)
theorem dev3_eq (c : Dev nD) : (⟨k0_dev3 c, k0_dev3_lt c⟩ : Dev nD) = up 2 c := Fin.ext (k0_dev3_eq c)
theorem dev4_eq (c : Dev nD) : (⟨k0_dev4 c, k0_dev4_lt c⟩ : Dev nD) = up 0 c := Fin.ext (k0_dev4_eq c)
theorem dev5_eq (c : Dev nD) : (⟨k0_dev5 c, k0_dev5_lt c⟩ : Dev nD) = up 1 c := Fin.ext (k0_dev5_eq c)
theorem dev6_eq (c : Dev nD) : (⟨k0_dev6 c, k0_dev6_lt c⟩ : Dev nD) = up 2 c := Fin.ext (k0_dev6_eq c)
theorem dev7_eq (c : Dev nD) : (⟨k0_dev7 c, k0_dev7_lt c⟩ : Dev nD) = up 0 c := Fin.ext (k0_dev7_eq c)
theorem dev8_eq (c : Dev nD) : (⟨k0_dev8 c, k0_dev8_lt c⟩ : Dev nD) = up 1 c := Fin.ext (k0_dev8_eq c)
theorem dev9_eq (c : Dev nD) : (⟨k0_dev9 c, k0_dev9_lt c⟩ : Dev nD) = up 2 c := Fin.ext (k0_dev9_eq c)

/-! ## Slots -/

abbrev xsM : Memref sig .tc .vmem S3x192x512 .bf16 := Memref.whole cc0_scratch0
abbrev psM : Memref sig .tc .vmem S3x192x512 .bf16 := Memref.whole cc0_scratch1
abbrev xrM : Memref sig .tc .vmem S3x192x512 .bf16 := Memref.whole cc0_scratch2
abbrev rrM : Memref sig .tc .vmem S3x192x512 .bf16 := Memref.whole cc0_scratch3

theorem inbS : ∀ i : Fin 3, ∀ a, (![i.val, 0, 0] : Fin 3 → Nat) a + S1x192x512.size a ≤ S3x192x512.size a := by decide
theorem inbQ : ∀ i : Fin 3, ∀ a, (![i.val] : Fin 1 → Nat) a + S1.size a ≤ S3.size a := by decide
theorem sqS : S1x192x512.Squeezes S192x512 := by decide
theorem sqQ : S1.Squeezes S_ := by decide
theorem castS : S1x192x512.ShapeCasts S192x512 := by decide
theorem castS' : S192x512.ShapeCasts S1x192x512 := by decide

/-- The rectangle of slot `i`, -/
abbrev sr (i : Fin 3) : Rect S3x192x512 := Rect.unit (s := S3x192x512) ![i.val, 0, 0] S1x192x512.size (inbS i)
/-- the slot of a transfer buffer as its transfers name it, -/
abbrev slot (M : Memref sig .tc .vmem S3x192x512 .bf16) (i : Fin 3) : Memref sig .tc .vmem S192x512 .bf16 :=
  (M.slice (sr i) (fun _ => rfl)).squeeze S192x512 sqS
/-- and a slot of an array of semaphores. -/
abbrev semAt (A : DmaSems sig S3) (i : Fin 3) : DmaSem sig :=
  ((A.slice (Rect.unit (s := S3) ![i.val] S1.size (inbQ i))).squeeze S_ sqQ).sem

abbrev N : ℕ := (slot xsM 0).view.dmaCredit
theorem N_pos : 0 < N := View.dmaCredit_pos _ (by decide)

/-- Slot `i` of the buffer `M` on device `c` holds `v`. -/
def slotAt (c : Dev nD) (M : Memref sig .tc .vmem S3x192x512 .bf16) (i : Fin 3) (v : Vec F S1x192x512 .bf16) : sProp 𝕄 :=
  iprop(∃ f : Buf (Elt F) ((slot M i).view.loc (c : Thread nD τ)), ⌜M.view.readAt (Elt F) (sr i).toLoadRect f = v⌝
    ∗ ((slot M i).view.loc (c : Thread nD τ) ↦[(slot M i).view.set]{fullShare} f))

/-- It holds something. -/
def slotAny (c : Dev nD) (M : Memref sig .tc .vmem S3x192x512 .bf16) (i : Fin 3) : sProp 𝕄 :=
  iprop(∃ f : Buf (Elt F) ((slot M i).view.loc (c : Thread nD τ)), ((slot M i).view.loc (c : Thread nD τ) ↦[(slot M i).view.set]{fullShare} f))

omit [FloatOps F] in
instance slotAt_storable (c : Dev nD) (M) (i) (v) : BI.Storable (upEmb : UEmb _ 𝕄) (slotAt (F := F) c M i v) := by unfold slotAt; infer_instance
omit [FloatOps F] in
instance slotAny_storable (c : Dev nD) (M) (i) : BI.Storable (upEmb : UEmb _ 𝕄) (slotAny (F := F) c M i) := by unfold slotAny; infer_instance

omit [FloatOps F] in
theorem slotAt_any (c : Dev nD) (M) (i) (v) : slotAt (F := F) c M i v ⊢ slotAny c M i := by
  unfold slotAt slotAny
  iintro ⟨%f, -, H⟩
  iexists f; iexact H

/-! ## Contents -/

section Contents

/-- Device `c`'s tokens, assignments and expert weights as staged. -/
def xst (c : Dev nD) : Vec F S512x512 .bf16 := iblk m c 0 t0_0
def asg (c : Dev nD) : Vec F S512 .i32 := iblk m c 1 t0_0
def w1st (c : Dev nD) : Vec F S2x512x1024 .bf16 := iblk m c 2 t0_0
def w2st (c : Dev nD) : Vec F S2x1024x512 .bf16 := iblk m c 3 t0_0

/-- The device's own number as a word. -/
def mew (c : Dev nD) : BitVec 32 := Scalar.remsi (Scalar.divsi (Dev.word c) 1#32) 4#32

def i46 : IVec S192x1 32 := iota .tc S192x1 32 [0] iota_S192x1_d0_w32
def i47 : IVec S1x192 32 := iota .tc S1x192 32 [1] iota_S1x192_d1_w32

def xv (c : Dev nD) : FVec F S512x512 .bf16 := k0_pay1 (xst m c)
def acol (c : Dev nD) : IVec S512x1 32 := k0_pay2 (asg m c)
def arow (c : Dev nD) : IVec S1x512 32 := k0_pay3 c (asg m c)
def b8 (c : Dev nD) : IVec S8x512 1 := k0_pay5 (arow m c) k0_pay4
def cs8 (c : Dev nD) : IVec S8x512 32 := k0_pay6 (F := F) (arow m c) k0_pay4
def b8c (c : Dev nD) : IVec S512x8 1 := k0_pay7 (mew c) (acol m c)
def cs8c (c : Dev nD) : IVec S512x8 32 := k0_pay8 (F := F) (mew c) (acol m c)

/-- What device `c` puts in slot `i` of its outgoing buffer. -/
def xsC (c : Dev nD) (i : Fin 3) : Vec F S1x192x512 .bf16 := match i with
  | 0 => k0_pay11 (xv m c) (k0_pay9 (F := F) (arow m c) k0_pay4)
  | 1 => k0_pay14 (xv m c) i46 (b8 m c) (cs8 m c) (k0_pay12 (cs8 m c))
  | 2 => k0_pay17 (k0_pay16 (xv m c) i46 (b8 m c) (cs8 m c))

abbrev r1 (j : Fin 2) (h : ∀ a, (![j.val, 0, 0] : Fin 3 → Nat) a + S1x512x1024.size a ≤ S2x512x1024.size a) : Rect S2x512x1024 :=
  Rect.unit (s := S2x512x1024) ![j.val, 0, 0] S1x512x1024.size h
theorem inb1 : ∀ j : Fin 2, ∀ a, (![j.val, 0, 0] : Fin 3 → Nat) a + S1x512x1024.size a ≤ S2x512x1024.size a := by decide

abbrev w1M : Memref sig .tc .vmem S2x512x1024 .bf16 := Memref.whole cc0_stg2_0
/-- Expert `j`'s first weight. -/
def w1at (c : Dev nD) (j : Fin 2) : Vec F S1x512x1024 .bf16 :=
  w1M.view.readAt (Elt F) (r1 j (inb1 j)).toLoadRect (w1st m c)

def w1c (c : Dev nD) : FVec F S512x2048 .bf16 := k0_pay23 (w1at m c 0) (w1at m c 1)
def w2c (c : Dev nD) : FVec F S2048x512 .bf16 := k0_pay24 (w2st m c)
def hm : IVec S192x2048 1 := k0_pay28 k0_pay25 k0_pay26 k0_pay27 0#32

/-- What device `c` puts in slot `i` of its result buffer: its experts on the tokens that came from `up i c`. -/
def psC (c : Dev nD) (i : Fin 3) : Vec F S1x192x512 .bf16 := match i with
  | 0 => k0_pay30 (w1c m c) (w2c m c) hm (xsC m (up 0 c) 2)
  | 1 => k0_pay31 (w1c m c) (w2c m c) hm (xsC m (up 1 c) 1)
  | 2 => k0_pay32 (w1c m c) (w2c m c) hm (xsC m (up 2 c) 0)

/-- The device's own tokens through its own experts. -/
def yown (c : Dev nD) : FVec F S192x512 .bf16 :=
  k0_pay29 (k0_pay22 (xv m c) (k0_pay18 i46 (b8 m c) (cs8 m c))) (w1c m c) (w2c m c) k0_pay25 k0_pay26 k0_pay27 0#32

/-- Device `c`'s result. -/
def outAt (c : Dev nD) : FVec F S512x512 .f32 :=
  k0_pay34 (k0_pay13 (F := F) i47 (b8c m c) (cs8c m c)) (k0_pay15 (F := F) i47 (b8c m c) (cs8c m c))
    (k0_pay33 (k0_pay10 (F := F) i47 (b8c m c) (cs8c m c))
      (k0_pay21 (F := F) i47 (b8c m c) (cs8c m c) (k0_pay19 i47 (cs8c m c)) (k0_pay20 (b8c m c))) (yown m c) (psC m (up 0 c) 2))
    (psC m (up 1 c) 1) (psC m (up 2 c) 0)

end Contents

/-! ## Cells -/

/-- A cell of a device: the barrier, or kind (0 token send, 1 result send, 2 token receive, 3 result receive) and slot. -/
abbrev CK : Type := Option (Fin 4 × Fin 3)

/-- The runtime's barrier semaphore. -/
abbrev barS : Sem sig := (SemArray.scalar (sig.barrier 0 rfl) : Sems sig S_).sem

abbrev semArr : Fin 4 → DmaSems sig S3 := fun | 0 => cc0_scratch4 | 1 => cc0_scratch5 | 2 => cc0_scratch6 | 3 => cc0_scratch7
/-- The kernel's own twelve semaphores, -/
abbrev osem (k : Fin 4 × Fin 3) : SemLoc sig := .dma (semAt (semArr k.1) k.2)
/-- all thirteen, -/
abbrev csem : CK → SemLoc sig := fun | none => .reg barS | some k => osem k
/-- the cells. -/
abbrev kcell (ck : Dev nD × CK) : GSem nD τ sig := ((ck.1 : Thread nD τ), csem ck.2)

abbrev barCell (c : Dev nD) : GSem nD τ sig := ((c : Thread nD τ), .reg barS)
abbrev dCell (k : Fin 4) (c : Dev nD) (i : Fin 3) : GSem nD τ sig := ((c : Thread nD τ), .dma (semAt (semArr k) i))

theorem osem_injective : Function.Injective osem := by decide
theorem csem_injective : Function.Injective csem := by
  rintro (_ | a) (_ | b) h
  · rfl
  · exact absurd h (fun h => by cases h)
  · exact absurd h (fun h => by cases h)
  · exact congrArg some (osem_injective h)
theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  subst h1; rw [csem_injective h2]

open Classical in
/-- The cell's number back from its semaphore. -/
def ofSem (s : SemLoc sig) : Option CK := if h : ∃ k, csem k = s then some h.choose else none

theorem ofSem_csem (k : CK) : ofSem (csem k) = some k := by
  unfold ofSem
  have h : ∃ k', csem k' = csem k := ⟨k, rfl⟩
  rw [dif_pos h]
  exact congrArg some (csem_injective h.choose_spec)

theorem ofSem_some {s : SemLoc sig} {k : CK} (h : ofSem s = some k) : csem k = s := by
  unfold ofSem at h
  split at h
  · rename_i hx
    have := hx.choose_spec
    rw [Option.some.inj h] at this; exact this
  · cases h

/-! ## The schedule -/

/-- What the signal of `up (rv i) c` hands `c`: slot `i` of both its landing buffers. -/
def barPay (c : Dev nD) (i : Fin 3) : sProp 𝕄 := iprop(slotAny (up (rv i) c) xrM i ∗ slotAny (up (rv i) c) rrM i)

/-- What each cell hands over. -/
def pay (c : Dev nD) (k : CK) (d : Fin 3) : sProp 𝕄 := match k with
  | none => barPay c d
  | some (0, i) => slotAt c xsM i (xsC m c i)
  | some (1, i) => slotAt c psM i (psC m c i)
  | some (2, i) => slotAt c xrM i (xsC m (up i c) (rv i))
  | some (3, i) => slotAt c rrM i (psC m (up i c) (rv i))

instance pay_storable (c : Dev nD) (k : CK) (d : Fin 3) : BI.Storable (upEmb : UEmb _ 𝕄) (pay m c k d) := by
  unfold pay barPay
  split <;> infer_instance

def dutiesK : Option CK → Finset (Fin 3) | some none => Finset.univ | some (some _) => {0} | none => ∅
def amountK : Option CK → ℕ | some none => 1 | _ => N

/-- One round: a barrier cell takes one unit from each of the other three devices, every other cell one block. -/
def Rd : Rounds.Schedule (GSem nD τ sig) (Fin 3) 𝕄 where
  duties g r := if r = 0 ∧ g.1.2 = .tc then dutiesK (ofSem g.2) else ∅
  unitless _ := False
  amount g _ _ := amountK (ofSem g.2)
  payload g _ d := match ofSem g.2 with | some k => pay m g.1.1 k d | none => iprop(emp)
  amount_pos g _ _ _ := by
    unfold amountK; split
    · exact Nat.one_pos
    · exact N_pos

instance Rd_payload_storable (g : GSem nD τ sig) (r : ℕ) (d : Fin 3) :
    BI.Storable (upEmb : UEmb _ 𝕄) ((Rd (F := F) m).payload g r d) := by
  show BI.Storable upEmb (match ofSem g.2 with | some k => pay m g.1.1 k d | none => iprop(emp))
  split <;> infer_instance

section Sched
variable (c : Dev nD)

omit [FloatOps F] in
theorem duties_cell [FloatOps F] (k : CK) : (Rd (F := F) m).duties (kcell (c, k)) 0 = dutiesK (some k) := by
  dsimp only [Rd]; rw [if_pos ⟨rfl, rfl⟩, ofSem_csem]
theorem duties_bar : (Rd (F := F) m).duties (barCell c) 0 = Finset.univ := duties_cell m c none
theorem duties_d (k : Fin 4) (i : Fin 3) : (Rd (F := F) m).duties (dCell k c i) 0 = {0} := duties_cell m c (some (k, i))
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := by
  have h : ofSem (barCell c).2 = some none := ofSem_csem none
  dsimp only [Rd]; rw [h]; rfl
theorem amount_d (k : Fin 4) (i : Fin 3) (d : Fin 3) : (Rd (F := F) m).amount (dCell k c i) 0 d = N := by
  have h : ofSem (dCell k c i).2 = some (some (k, i)) := ofSem_csem (some (k, i))
  dsimp only [Rd]; rw [h]; rfl

theorem expect_bar : (Rd (F := F) m).expect (barCell c) 0 = 3 := by
  unfold Schedule.expect Schedule.amountOf
  rw [duties_bar, Finset.sum_congr rfl fun d _ => amount_bar m c d]; decide
theorem expect_d (k : Fin 4) (i : Fin 3) : (Rd (F := F) m).expect (dCell k c i) 0 = N := by
  unfold Schedule.expect Schedule.amountOf; rw [duties_d, Finset.sum_singleton, amount_d]

theorem payload_bar (d : Fin 3) : (Rd (F := F) m).payload (barCell c) 0 d = barPay c d := by
  have h : ofSem (barCell c).2 = some none := ofSem_csem none
  dsimp only [Rd]; rw [h]; rfl
theorem payload_d (k : Fin 4) (i : Fin 3) (d : Fin 3) : (Rd (F := F) m).payload (dCell k c i) 0 d = pay m c (some (k, i)) d := by
  have h : ofSem (dCell k c i).2 = some (some (k, i)) := ofSem_csem (some (k, i))
  dsimp only [Rd]; rw [h]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_fin3]; simp only [payload_bar]
theorem rest_d (k : Fin 4) (i : Fin 3) : bigSep ((Rd (F := F) m).duties (dCell k c i) 0 \ ∅) (fun d => (Rd (F := F) m).payload (dCell k c i) 0 d)
    = pay m c (some (k, i)) 0 := by
  rw [Finset.sdiff_empty, duties_d, bigSep_singleton, payload_d]

end Sched

/-! ## What a device owes, and the levels -/

/-- A list of debts as one tally, the head the last summand. -/
def owe : List (GSem nD τ sig × ℕ) → CellTallies nD τ sig Unit
  | [] => 0
  | p :: l => owe l + tallyAt p.1 () p.2

theorem owe_apply (l : List (GSem nD τ sig × ℕ)) (g : GSem nD τ sig) :
    owe l g () = (l.map fun p => if g = p.1 then p.2 else 0).sum := by
  induction l with
  | nil => rfl
  | cons p l ih =>
    unfold owe
    rw [Pi.add_apply, Finsupp.add_apply, ih, tallyAt_apply, List.map_cons, List.sum_cons, Nat.add_comm]
    congr 1
    by_cases h : g = p.1
    · rw [if_pos ⟨h, rfl⟩, if_pos h]
    · rw [if_neg (fun h' => h h'.1), if_neg h]

theorem owe_pos {l : List (GSem nD τ sig × ℕ)} {g : GSem nD τ sig} {u : Unit} (h : 0 < owe l g u) : ∃ p ∈ l, p.1 = g := by
  cases u
  rw [owe_apply] at h
  by_contra hn
  have : (l.map fun p => if g = p.1 then p.2 else 0).sum = 0 := by
    refine List.sum_eq_zero fun x hx => ?_
    obtain ⟨p, hp, rfl⟩ := List.mem_map.mp hx
    exact if_neg fun e => hn ⟨p, hp, e.symm⟩
  omega

/-- The debts of the returned results, of the outgoing tokens, of the barrier signals, in program order. -/
def debtR (c : Dev nD) : List (GSem nD τ sig × ℕ) := [(dCell 3 (up 0 c) 2, N), (dCell 3 (up 1 c) 1, N), (dCell 3 (up 2 c) 0, N)]
def debtX (c : Dev nD) : List (GSem nD τ sig × ℕ) := [(dCell 2 (up 0 c) 2, N), (dCell 2 (up 1 c) 1, N), (dCell 2 (up 2 c) 0, N)]
def debtB (c : Dev nD) : List (GSem nD τ sig × ℕ) := [(barCell (up 0 c), 1), (barCell (up 1 c), 1), (barCell (up 2 c), 1)]
/-- Everything device `c` owes at launch. -/
def O₀ (c : Dev nD) : CellTallies nD τ sig Unit := owe (debtB c ++ debtX c ++ debtR c)

def L (g : GSem nD τ sig) : Finset Unit := if g.1.2 = .tc then {()} else ∅
/-- Barrier cells at 1, token receive cells at 2, result receive cells at 3, everything else at 0. -/
def lv (g : GSem nD τ sig) (_ : Unit) : ℕ := match ofSem g.2 with
  | some none => 1 | some (some (2, _)) => 2 | some (some (3, _)) => 3 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (kcell (c, k)) u = match k with | none => 1 | some (2, _) => 2 | some (3, _) => 3 | _ => 0 := by
  unfold lv; rw [ofSem_csem]
  rcases k with _ | ⟨k, i⟩
  · rfl
  · fin_cases k <;> rfl

omit [FloatOps F] in
/-- A wait below everything owed is allowed. -/
theorem mayWait_below (c : Dev nD) (sm : SemLoc sig) (n : ℕ) (l : List (GSem nD τ sig × ℕ)) (hn : lv ((c : Thread nD τ), sm) () ≤ n)
    (hl : ∀ p ∈ l, p.1.1.2 = .tc ∧ n < lv p.1 ()) :
    (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact hn)
    (fun g u hg => by
      obtain ⟨p, hp, rfl⟩ := owe_pos hg
      exact (hl p hp).2)

theorem lv_bar (c : Dev nD) : lv (barCell c) () = 1 := lv_cell c none ()
theorem lv_d (k : Fin 4) (c : Dev nD) (i : Fin 3) : lv (dCell k c i) () = match k with | 2 => 2 | 3 => 3 | _ => 0 := by
  refine (lv_cell c (some (k, i)) ()).trans ?_
  fin_cases k <;> rfl

theorem debtR_lv (c : Dev nD) : ∀ p ∈ debtR c, p.1.1.2 = .tc ∧ lv p.1 () = 3 := by
  intro p hp
  simp only [debtR, List.mem_cons, List.not_mem_nil, or_false] at hp
  rcases hp with rfl | rfl | rfl <;> exact ⟨rfl, lv_d 3 _ _⟩
theorem debtX_lv (c : Dev nD) : ∀ p ∈ debtX c, p.1.1.2 = .tc ∧ lv p.1 () = 2 := by
  intro p hp
  simp only [debtX, List.mem_cons, List.not_mem_nil, or_false] at hp
  rcases hp with rfl | rfl | rfl <;> exact ⟨rfl, lv_d 2 _ _⟩
theorem debtB_lv (c : Dev nD) : ∀ p ∈ debtB c, p.1.1.2 = .tc ∧ lv p.1 () = 1 := by
  intro p hp
  simp only [debtB, List.mem_cons, List.not_mem_nil, or_false] at hp
  rcases hp with rfl | rfl | rfl <;> exact ⟨rfl, lv_bar _⟩

/-! ## Ghost state of a device's body -/

/-- The invariants of all the cells, and that each has reached round 0. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
omit [FloatOps F] in
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (Rd m) (K ck) (kcell ck) := by
  unfold records
  iintro ⟨H, -⟩
  iapply (inv_at' m K ck); iexact H
theorem reached_at (K : Dev nD × CK → ℕ) (ck : Dev nD × CK) : records m K ⊢ reached ER (kcell ck) 0 := by
  unfold records
  iintro ⟨-, H⟩
  iapply (reached_at' (F := F) ck); iexact H

omit [FloatOps F] in
theorem bigSep_CK (Φ : CK → sProp 𝕄) : bigSep Finset.univ Φ
    = iprop(Φ none ∗ Φ (some (0, 0)) ∗ Φ (some (0, 1)) ∗ Φ (some (0, 2)) ∗ Φ (some (1, 0)) ∗ Φ (some (1, 1)) ∗ Φ (some (1, 2))
        ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2),
    some (2, 0), some (2, 1), some (2, 2), some (3, 0), some (3, 1), some (3, 2)] (by decide) (by decide) Φ

/-- The tokens of the duties device `c` pays: a unit of each other device's barrier cell, its own send cells, and the
    receive cells its transfers land on. -/
def payToks (c : Dev nD) : sProp 𝕄 :=
  iprop((bigSep Finset.univ fun i : Fin 3 => dutyTok ER (barCell (up i c)) 0 i)
    ∗ (bigSep Finset.univ fun i : Fin 3 => dutyTok ER (dCell 0 c i) 0 0)
    ∗ (bigSep Finset.univ fun i : Fin 3 => dutyTok ER (dCell 1 c i) 0 0)
    ∗ (bigSep Finset.univ fun i : Fin 3 => dutyTok ER (dCell 2 (up i c) (rv i)) 0 0)
    ∗ (bigSep Finset.univ fun i : Fin 3 => dutyTok ER (dCell 3 (up i c) (rv i)) 0 0))

/-- What device `c`'s body starts from at the names `K`: the records, its positions and the tokens it pays with. -/
def ghost (K : Dev nD × CK → ℕ) (c : Dev nD) : sProp 𝕄 :=
  iprop(records m K ∗ (bigSep Finset.univ fun k : CK => atPos ER (kcell (c, k)) 0 ∅ 0) ∗ payToks c)

/-- What its cells are owed by the other devices. -/
def creds (c : Dev nD) : sProp 𝕄 :=
  iprop(cred (tallyAt (barCell c) () 3)
    ∗ (bigSep Finset.univ fun i : Fin 3 => cred (tallyAt (dCell 2 c i) () N))
    ∗ (bigSep Finset.univ fun i : Fin 3 => cred (tallyAt (dCell 3 c i) () N)))

def start (c : Dev nD) : sProp 𝕄 := iprop((∃ K, ghost m K c) ∗ creds c ∗ levAts L lv)

end Cert.KernelIdeal.Exchange

end
-- ==== Proof.KernelIdealSteps.lean ====
/-
One step of the exchange at a time: a transfer buffer cut into its slots and put together again, a load or store of a
slot, a transfer of a slot to another device, a barrier signal, a wait, and a cell closed.
-/
module

public import proofs.«01_k».proof.Proof.KernelIdealProto

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Slots of a buffer -/

theorem mem_sr (i : Fin 3) (x : S3x192x512.Idx) : x ∈ (sr i).set ↔ (x 0).val = i.val := by
  rw [Rect.mem_set_unit]
  constructor
  · intro h
    have h0 := h 0
    simp only [Matrix.cons_val_zero] at h0
    have : S1x192x512.size 0 = 1 := rfl
    omega
  · intro h a
    have hx := (x a).isLt
    fin_cases a
    · have : S1x192x512.size 0 = 1 := rfl
      simp only [Fin.zero_eta, Matrix.cons_val_zero] at *
      omega
    · have h1 : S1x192x512.size 1 = S3x192x512.size 1 := rfl
      simp only [Fin.mk_one, Matrix.cons_val_one, Matrix.cons_val_zero] at *
      omega
    · have h1 : S1x192x512.size 2 = S3x192x512.size 2 := rfl
      simp only [Fin.reduceFinMk, Matrix.cons_val] at *
      omega

theorem slot_set (M : Memref sig .tc .vmem S3x192x512 .bf16) (i : Fin 3) : (slot M i).view.set = (sr i).set.map M.view.emb := by
  rw [Memref.set_view_squeeze]; exact View.set_slice _ _

theorem slot_disjoint (M : Memref sig .tc .vmem S3x192x512 .bf16) {i j : Fin 3} (h : i ≠ j) : Disjoint (slot M i).view.set (slot M j).view.set := by
  rw [slot_set, slot_set, Finset.disjoint_map, Finset.disjoint_left]
  intro x hi hj
  rw [mem_sr] at hi hj
  exact h (Fin.ext (hi.symm.trans hj))

theorem slot_union (M : Memref sig .tc .vmem S3x192x512 .bf16) :
    M.view.set = (slot M 0).view.set ∪ ((slot M 1).view.set ∪ (slot M 2).view.set) := by
  rw [slot_set, slot_set, slot_set, ← Finset.map_union, ← Finset.map_union]
  refine congrArg (Finset.map M.view.emb) (Finset.eq_univ_iff_forall.mpr fun x => ?_).symm
  rw [Finset.mem_union, Finset.mem_union, mem_sr, mem_sr, mem_sr]
  have hx : (x 0).val < 3 := (x 0).isLt
  have h0 : ((0 : Fin 3) : ℕ) = 0 := rfl
  have h1 : ((1 : Fin 3) : ℕ) = 1 := rfl
  have h2 : ((2 : Fin 3) : ℕ) = 2 := rfl
  omega

/-- The three slots of a device's buffer, each holding something. -/
def slots (c : Dev nD) (M : Memref sig .tc .vmem S3x192x512 .bf16) : sProp 𝕄 := iprop(slotAny (F := F) c M 0 ∗ slotAny c M 1 ∗ slotAny c M 2)

omit [FloatOps F] in
theorem slots_split (c : Dev nD) (M : Memref sig .tc .vmem S3x192x512 .bf16) (f : Buf (Elt F) (M.view.loc (c : Thread nD τ))) :
    (M.view.loc (c : Thread nD τ) ↦[M.view.set]{fullShare} f : sProp 𝕄) ⊢ slots c M := by
  rw [slot_union]
  iintro H
  ihave H := (pointsTo_union (ℓ := M.view.loc (c : Thread nD τ)) (q := fullShare) (f := f)
    (by rw [Finset.disjoint_union_right]; exact ⟨slot_disjoint M (by decide : (0 : Fin 3) ≠ 1), slot_disjoint M (by decide : (0 : Fin 3) ≠ 2)⟩)).1 $$ H
  icases H with ⟨H0, H⟩
  ihave H := (pointsTo_union (ℓ := M.view.loc (c : Thread nD τ)) (q := fullShare) (f := f) (slot_disjoint M (by decide : (1 : Fin 3) ≠ 2))).1 $$ H
  icases H with ⟨H1, H2⟩
  unfold slots slotAny
  isplitl [H0]; · iexists f; iexact H0
  isplitl [H1]
  · iexists f; iexact H1
  · iexists f; iexact H2

omit [FloatOps F] in
theorem slots_join (c : Dev nD) (M : Memref sig .tc .vmem S3x192x512 .bf16) :
    slots c M ⊢ (iprop(∃ f : Buf (Elt F) (M.view.loc (c : Thread nD τ)), (M.view.loc (c : Thread nD τ) ↦[M.view.set]{fullShare} f)) : sProp 𝕄) := by
  rw [slot_union]
  unfold slots slotAny
  iintro ⟨⟨%f0, H0⟩, ⟨%f1, H1⟩, ⟨%f2, H2⟩⟩
  ihave H12 := (pointsTo_join (ℓ := M.view.loc (c : Thread nD τ)) (q := fullShare) (slot_disjoint M (by decide : (1 : Fin 3) ≠ 2))) $$ [H1 H2]
  · isplitl [H1] <;> iassumption
  ihave H := (pointsTo_join (ℓ := M.view.loc (c : Thread nD τ)) (q := fullShare)
    (by rw [Finset.disjoint_union_right]; exact ⟨slot_disjoint M (by decide : (0 : Fin 3) ≠ 1), slot_disjoint M (by decide : (0 : Fin 3) ≠ 2)⟩)) $$ [H0 H12]
  · isplitl [H0] <;> iassumption
  iexists _; iexact H

/-! ## Loads and stores of a slot -/

theorem slot_setOn (M : Memref sig .tc .vmem S3x192x512 .bf16) (i : Fin 3) : M.view.setOn (sr i).toLoadRect.set = (slot M i).view.set := by
  rw [slot_set]; rfl

theorem slot_access (M : Memref sig .tc .vmem S3x192x512 .bf16) (i : Fin 3) : (M.access (sr i)).setOn Finset.univ = (slot M i).view.set := by
  rw [Memref.set_view_squeeze]; rfl

section Steps
variable (c : Dev nD)

theorem load_slot {α : Type} {Q : α → sProp 𝕄} (M : Memref sig .tc .vmem S3x192x512 .bf16) (i : Fin 3) (v : Vec F S1x192x512 .bf16)
    {hl : M.view.LoadsAt (sr i).toLoadRect} {k : Vec F S1x192x512 .bf16 → Prog (TpuEff nD τ sig (Elt F) Λ₀ .tc) α} :
    slotAt c M i v ⊢ iprop((slotAt c M i v -∗ wp frame (wpE (defs₀ (F := F)) 𝒱₀ (c : Thread nD τ) none) Set.univ (k v) Q)
      -∗ wp frame (wpE (defs₀ (F := F)) 𝒱₀ (c : Thread nD τ) none) Set.univ (.op (.load M (sr i).toLoadRect hl) k) Q) := by
  unfold slotAt
  iintro ⟨%f, %hf, H⟩ Hk
  iapply (wp_load 𝒱₀ (c : Thread nD τ) none Set.univ (m := M) (by rw [slot_setOn])) $$ H
  iintro H
  rw [hf]
  iapply Hk
  iexists f
  isplitr; · ipureintro; exact hf
  iexact H

/-- A load whose value is not looked at. -/
theorem load_any {α : Type} {Q : α → sProp 𝕄} (M : Memref sig .tc .vmem S3x192x512 .bf16) (i : Fin 3)
    {hl : M.view.LoadsAt (sr i).toLoadRect} {p : Prog (TpuEff nD τ sig (Elt F) Λ₀ .tc) α} :
    slotAny c M i ⊢ iprop((slotAny c M i -∗ wp frame (wpE (defs₀ (F := F)) 𝒱₀ (c : Thread nD τ) none) Set.univ p Q)
      -∗ wp frame (wpE (defs₀ (F := F)) 𝒱₀ (c : Thread nD τ) none) Set.univ (.op (.load M (sr i).toLoadRect hl) fun _ => p) Q) := by
  unfold slotAny
  iintro ⟨%f, H⟩ Hk
  iapply (wp_load 𝒱₀ (c : Thread nD τ) none Set.univ (m := M) (by rw [slot_setOn])) $$ H
  iintro H
  iapply Hk
  iexists f; iexact H

theorem store_slot {α : Type} {Q : α → sProp 𝕄} (M : Memref sig .tc .vmem S3x192x512 .bf16) (i : Fin 3) (w : Vec F S1x192x512 .bf16)
    {hx : (M.access (sr i)).Stores Finset.univ} {hm} {k : PUnit → Prog (TpuEff nD τ sig (Elt F) Λ₀ .tc) α} :
    slotAny c M i ⊢ iprop((slotAt c M i w -∗ wp frame (wpE (defs₀ (F := F)) 𝒱₀ (c : Thread nD τ) none) Set.univ (k ⟨⟩) Q)
      -∗ wp frame (wpE (defs₀ (F := F)) 𝒱₀ (c : Thread nD τ) none) Set.univ (.op (.store M (sr i) w Finset.univ hx hm) k) Q) := by
  unfold slotAt slotAny
  iintro ⟨%f, H⟩ Hk
  iapply (wp_store 𝒱₀ (c : Thread nD τ) none Set.univ (m := M) (r := sr i) (w := w) (Mk := Finset.univ) (by rw [slot_access])) $$ H
  iintro H
  iapply Hk
  iexists _
  isplitr
  swap
  · iexact H
  · ipureintro; exact View.read_write_univ _ _

/-! ## Transfers -/

theorem shapeCast_slot_inj {a b : Vec F S1x192x512 .bf16} (h : (shapeCast S192x512 a castS : FVec F S192x512 .bf16) = shapeCast S192x512 b castS) : a = b := by
  have := congrArg (fun v : S192x512.Idx → F .bf16 => shapeCast S1x192x512 v castS') h
  simpa only [shapeCast_shapeCast] using this

theorem landed_read (M M' : Memref sig .tc .vmem S3x192x512 .bf16) (i j : Fin 3) (fd : (slot M' j).view.ty.Contents (Elt F)) (fs : (slot M i).view.ty.Contents (Elt F)) :
    M'.view.readAt (Elt F) (sr j).toLoadRect ((slot M' j).view.write (Elt F) fd ((slot M i).view.read (Elt F) fs) Finset.univ)
      = M.view.readAt (Elt F) (sr i).toLoadRect fs := by
  refine shapeCast_slot_inj ?_
  rw [← Memref.read_squeeze_slice M' (sr j) (fun _ => rfl) sqS castS, ← Memref.read_squeeze_slice M (sr i) (fun _ => rfl) sqS castS]
  exact View.read_write_univ _ _

/-- A transfer from slot `i` of `M` on `c` to slot `rv i` of `M'` on `up i c`, signalling the send cell of kind `k₁` and
    the receive cell of kind `k₂`. -/
theorem send_slot {α : Type} {Q : α → sProp 𝕄} (K : Dev nD × CK → ℕ) (n : Dev nD) (i : Fin 3) (hn : n = up i c) (M M' : Memref sig .tc .vmem S3x192x512 .bf16) (k₁ k₂ : Fin 4)
    (v : Vec F S1x192x512 .bf16)
    (hp₁ : slotAt c M i v ⊢ pay m c (some (k₁, i)) 0) (hp₂ : slotAt (up i c) M' (rv i) v ⊢ pay m (up i c) (some (k₂, rv i)) 0)
    {hsc : (slot M' (rv i) : Memref sig (Dev.tc n : Thread nD τ).2.kind .vmem S192x512 .bf16).view.ref.isScScratch = false}
    {hsrc : (slot M i).view.WordExact} {hdst : (slot M' (rv i)).view.WordExact}
    {hsem : DmaTarget.Typed .vmem (.dma (semAt (semArr k₂) (rv i))) (.remote (Dev.tc n : Thread nD τ) (slot M' (rv i)) (.dma (semAt (semArr k₁) i)) hsc)}
    {k : PUnit → Prog (TpuEff nD τ sig (Elt F) Λ₀ .tc) α} (l : List (GSem nD τ sig × ℕ)) (W : Waits sig Unit) :
    iprop(records m K ∗ slotAt c M i v ∗ slotAny (up i c) M' (rv i)
        ∗ owes (c : Thread nD τ) (owe ((dCell k₂ (up i c) (rv i), N) :: l)) W
        ∗ dutyTok ER (dCell k₁ c i) 0 0 ∗ dutyTok ER (dCell k₂ (up i c) (rv i)) 0 0)
      ⊢ iprop(((cred (tallyAt (dCell k₁ c i) () N) ∗ owes (c : Thread nD τ) (owe l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot M i) (.remote (Dev.tc n : Thread nD τ) (slot M' (rv i)) (.dma (semAt (semArr k₁) i)) hsc) (.dma (semAt (semArr k₂) (rv i))) hsrc hdst hsem) k) Q) := by
  subst hn
  iintro ⟨#HR, Hs, Hd, HO, Ht1, Ht2⟩
  ihave #HI1 := (inv_at m K (c, some (k₁, i))) $$ HR
  ihave #HI2 := (inv_at m K (up i c, some (k₂, rv i))) $$ HR
  ihave #Hr1 := (reached_at m K (c, some (k₁, i))) $$ HR
  ihave #Hr2 := (reached_at m K (up i c, some (k₂, rv i))) $$ HR
  ihave Hs := (Entails.of_eq (show slotAt c M i v = iprop(∃ f, ⌜M.view.readAt (Elt F) (sr i).toLoadRect f = v⌝ ∗ (slot M i).view.loc (c : Thread nD τ) ↦[(slot M i).view.set]{fullShare} f) from rfl)) $$ Hs
  ihave Hd := (Entails.of_eq (show slotAny (up i c) M' (rv i) = iprop(∃ f, (slot M' (rv i)).view.loc ((up i c : Dev nD) : Thread nD τ) ↦[(slot M' (rv i)).view.set]{fullShare} f) from rfl)) $$ Hd
  icases Hs with ⟨%fs, %hfs, Hs⟩
  icases Hd with ⟨%fd, Hd⟩
  iintro Hk
  iapply (Rounds.wp_send_pointsTo 𝒱₀ ER (Rd m) (c : Thread nD τ) none (κ₁ := K (c, some (k₁, i))) (κ₂ := K (up i c, some (k₂, rv i)))
    (r₁ := 0) (r₂ := 0) (d₁ := 0) (d₂ := 0) (fs := fs) (fd := fd)
    (by rw [duties_d]; exact Finset.mem_singleton_self _) (by rw [duties_d]; exact Finset.mem_singleton_self _)
    () () N rfl (amount_d m c k₁ i 0) (amount_d m (up i c) k₂ (rv i) 0) (owe l) rfl (W := W)
    (by rw [payload_d]; refine BIBase.Entails.trans ?_ hp₁; unfold slotAt; iintro H; iexists fs; isplitr; · (ipureintro; exact hfs)
        iexact H)
    (by rw [payload_d]; refine BIBase.Entails.trans ?_ hp₂; unfold slotAt; iintro H; iexists _; isplitr
        swap
        · iexact H
        · ipureintro; rw [← hfs]; exact landed_read M M' i (rv i) fd fs)) $$ [Hs Hd HO Ht1 Ht2] Hk
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-! ## Signals, waits, closing -/

/-- The barrier signal to `up i c`, with slot `i` of both landing buffers. -/
theorem signal_up {α : Type} {Q : α → sProp 𝕄} (K : Dev nD × CK → ℕ) (n : Dev nD) (i : Fin 3) (hn : n = up i c) {amt : ℕ} (hamt : amt = 1)
    {k : PUnit → Prog (TpuEff nD τ sig (Elt F) Λ₀ .tc) α} (l : List (GSem nD τ sig × ℕ)) (W : Waits sig Unit) :
    iprop(records m K ∗ owes (c : Thread nD τ) (owe ((barCell (up i c), 1) :: l)) W
        ∗ dutyTok ER (barCell (up i c)) 0 i ∗ slotAny c xrM i ∗ slotAny c rrM i)
      ⊢ iprop((owes (c : Thread nD τ) (owe l) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS amt) k) Q) := by
  subst hn hamt
  iintro ⟨#HR, HO, Ht, Hx, Hr⟩ Hk
  ihave #HI := (inv_at m K (up i c, none)) $$ HR
  ihave #Hre := (reached_at m K (up i c, none)) $$ HR
  iapply (Rounds.wp_signal 𝒱₀ ER (Rd m) (c : Thread nD τ) none (dst := (up i c : Thread nD τ)) (κ := K (up i c, none))
      (d := i) (by rw [duties_bar]; exact Finset.mem_univ _) (amount_bar m (up i c) i) () (owe l) rfl)
    $$ [HO Ht Hx Hr] Hk
  isplitr; · iexact HI
  isplitl [HO]; · iexact HO
  isplitl [Ht]; · iexact Ht
  isplitl [Hx Hr]
  · rw [payload_bar]; unfold barPay; rw [up_rv]
    isplitl [Hx] <;> iassumption
  · iexact Hre

/-- The wait for the other three devices. -/
theorem wait_bar {α : Type} {Q : α → sProp 𝕄} (K : Dev nD × CK → ℕ) {amt : ℕ} (hamt : amt = 3)
    {k : PUnit → Prog (TpuEff nD τ sig (Elt F) Λ₀ .tc) α} (l : List (GSem nD τ sig × ℕ)) (W : Waits sig Unit)
    (hl : ∀ p ∈ l, p.1.1.2 = .tc ∧ 1 < lv p.1 ()) :
    iprop(records m K ∗ levAts L lv ∗ owes (c : Thread nD τ) (owe l) W
        ∗ atPos ER (barCell c) 0 ∅ 0 ∗ cred (tallyAt (barCell c) () 3))
      ⊢ iprop(((owes (c : Thread nD τ) (owe l) (insert (SemLoc.reg barS, ()) W) ∗ atPos ER (barCell c) 1 ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS amt) k) Q) := by
  subst hamt
  iintro ⟨#HR, #Hlev, HO, Hat, Hc⟩ Hk
  ihave #HI := (inv_at m K (c, none)) $$ HR
  iapply (Rounds.wp_wait_rest_token 𝒱₀ ER (Rd m) (c : Thread nD τ) none (κ := K (c, none))
      (wpE_semWait_eq 𝒱₀ (c : Thread nD τ) none Set.univ) (Set.mem_univ _) () (O := owe l) (W := W) (R := 0) (m := 0) (T := ∅)
      (by rw [expect_bar])) $$ [Hc HO Hat]
  · isplitr; · iexact HI
    isplitl [Hc]; · iexact Hc
    isplitl [HO]; · iexact HO
    isplitr
    · iapply (mayWait_below (F := F) c (.reg barS) 1 l (le_of_eq (lv_bar c)) hl); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The wait on a cell of a transfer, below everything still owed. -/
theorem wait_d {α : Type} {Q : α → sProp 𝕄} (K : Dev nD × CK → ℕ) (kd : Fin 4) (i : Fin 3) (n : ℕ) (hn : lv (dCell kd c i) () ≤ n)
    {src dst : Memref sig .tc .vmem S192x512 .bf16} {hs : src.view.WordExact} {hd : dst.view.WordExact}
    (hN : dst.view.dmaCredit = N)
    {k : PUnit → Prog (TpuEff nD τ sig (Elt F) Λ₀ .tc) α} (l : List (GSem nD τ sig × ℕ)) (W : Waits sig Unit)
    (hl : ∀ p ∈ l, p.1.1.2 = .tc ∧ n < lv p.1 ()) :
    iprop(records m K ∗ levAts L lv ∗ owes (c : Thread nD τ) (owe l) W
        ∗ atPos ER (dCell kd c i) 0 ∅ 0 ∗ cred (tallyAt (dCell kd c i) () N))
      ⊢ iprop(((owes (c : Thread nD τ) (owe l) (insert (SemLoc.dma (semAt (semArr kd) i), ()) W) ∗ atPos ER (dCell kd c i) 1 ∅ 0 ∗ pay m c (some (kd, i)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semAt (semArr kd) i) src dst hs hd) k) Q) := by
  iintro ⟨#HR, #Hlev, HO, Hat, Hc⟩ Hk
  ihave #HI := (inv_at m K (c, some (kd, i))) $$ HR
  iapply (Rounds.wp_wait_rest_token 𝒱₀ ER (Rd m) (c : Thread nD τ) none (κ := K (c, some (kd, i)))
      (wpE_waitDma2_eq 𝒱₀ (c : Thread nD τ) none Set.univ) (Set.mem_univ _) () (O := owe l) (W := W) (R := 0) (m := 0) (T := ∅)
      (by rw [Nat.zero_add, expect_d, hN])) $$ [Hc HO Hat]
  · isplitr; · iexact HI
    isplitl [Hc]; · rw [hN]; iexact Hc
    isplitl [HO]; · iexact HO
    isplitr
    · iapply (mayWait_below (F := F) c (.dma (semAt (semArr kd) i)) n l hn hl); iexact Hlev
    iexact Hat
  iintro ⟨HO, Hat, -, Hpay⟩
  ihave Hp := (Entails.of_eq (rest_d m c kd i)) $$ Hpay
  iapply Hk
  isplitl [HO]; · iexact HO
  isplitl [Hat]; · iexact Hat
  iexact Hp

/-- A cell past its round is closed: its counter, zero, is the device's again. -/
theorem close_cell (K : Dev nD × CK → ℕ) (ck : CK) :
    iprop(records m K ∗ atPos ER (kcell (c, ck)) 1 ∅ 0) ⊢ |={Set.univ}=> (semVal (kcell (c, ck)) 0 : sProp 𝕄) := by
  iintro ⟨#HR, Hat⟩
  ihave #HI := (inv_at m K (c, ck)) $$ HR
  imod (Rounds.cell_close ER (Rd m) (Set.mem_univ (K (c, ck))) (fun h => h) (R := 0 + 1) (duties_later m (kcell (c, ck)))) $$ [Hat] with Hz
  · isplitr; · iexact HI
    iexact Hat
  imodintro
  iexact Hz

end Steps

end Cert.KernelIdeal.Exchange

end
-- ==== Proof.KernelIdealBody.lean ====
/-
The kernel's body on one device, run through from what it starts with to what it leaves.
-/
module

public import proofs.«01_k».proof.Proof.KernelIdealSteps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one region -/

theorem cfg0_N : cfg0.N = 1 := by decide
theorem fin_N (t : Fin cfg0.N) : t = t0_0 := by
  obtain ⟨t, ht⟩ := t; have := cfg0_N; exact Fin.ext (by show t = 0; omega)

/-- A transfer buffer, whatever it holds. -/
abbrev scr (c : Dev nD) (b : Ref sig .tc) : sProp 𝕄 :=
  iprop(∃ f : Buf (Elt F) (((c : Dev nD) : Thread nD τ).loc b), (((c : Thread nD τ).loc b) ↦{fullShare} f))
abbrev scrs (c : Dev nD) : sProp 𝕄 := iprop(scr (F := F) c cc0_scratch0 ∗ scr c cc0_scratch1 ∗ scr c cc0_scratch2 ∗ scr c cc0_scratch3)

def Φ₀ (c : Dev nD) : sProp 𝕄 := iprop(start m c ∗ scrs c)
/-- After the body: the transfer buffers and every cell's counter at zero. -/
def Φ₁ (c : Dev nD) : sProp 𝕄 := iprop(scrs c ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => asg m c
    | ⟨2, _⟩ => w1st m c
    | ⟨3, _⟩ => w2st m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The whole-buffer accesses -/

abbrev xM : Memref sig .tc .vmem S512x512 .bf16 := Memref.whole cc0_stg0_0
abbrev aM : Memref sig .tc .vmem S512 .i32 := Memref.whole cc0_stg1_0
abbrev w2M : Memref sig .tc .vmem S2x1024x512 .bf16 := Memref.whole cc0_stg3_0
abbrev oM : Memref sig .tc .vmem S512x512 .f32 := Memref.whole cc0_stg4_0

abbrev rX : Rect S512x512 := Rect.unit (s := S512x512) ![0, 0] S512x512.size inb_S512x512_S512x512_0_0

omit [FloatOps F] in
theorem hz1 : (![0] : Fin 1 → Nat) = fun _ => 0 := funext fun a => by fin_cases a <;> rfl
omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) : xM.view.readAt (Elt F) rX.toLoadRect f = f :=
  Memref.readAt_unit_zero (Elt F) cc0_stg0_0 hz2 _ f
omit [FloatOps F] in
theorem read_a (f : (cc0_stg1_0 : Ref sig .tc).ty.Contents (Elt F)) :
    aM.view.readAt (Elt F) (Rect.unit (s := S512) ![0] S512.size inb_S512_S512_0).toLoadRect f = f :=
  Memref.readAt_unit_zero (Elt F) cc0_stg1_0 hz1 _ f
omit [FloatOps F] in
theorem read_w2 (f : (cc0_stg3_0 : Ref sig .tc).ty.Contents (Elt F)) :
    w2M.view.readAt (Elt F) (Rect.unit (s := S2x1024x512) ![0, 0, 0] S2x1024x512.size inb_S2x1024x512_S2x1024x512_0_0_0).toLoadRect f = f :=
  Memref.readAt_unit_zero (Elt F) cc0_stg3_0 hz3 _ f
omit [FloatOps F] in
theorem write_out (f w : (cc0_stg4_0 : Ref sig .tc).ty.Contents (Elt F)) :
    ((oM : Memref sig .tc .vmem S512x512 .f32).access rX : View sig .tc _ _ _).write (Elt F) f w Finset.univ = w :=
  Memref.write_access_unit_zero_univ (Elt F) cc0_stg4_0 hz2 _ f w

omit [FloatOps F] in
theorem slots_of (c : Dev nD) (M : Memref sig .tc .vmem S3x192x512 .bf16) (hs : M.view.set = Finset.univ) (f : Buf (Elt F) (M.view.loc (c : Thread nD τ))) :
    (M.view.loc (c : Thread nD τ) ↦{fullShare} f : sProp 𝕄) ⊢ slots c M := by
  rw [← hs]; exact slots_split c M f
omit [FloatOps F] in
theorem slots_to (c : Dev nD) (M : Memref sig .tc .vmem S3x192x512 .bf16) (hs : M.view.set = Finset.univ) :
    slots c M ⊢ (iprop(∃ f : Buf (Elt F) (M.view.loc (c : Thread nD τ)), (M.view.loc (c : Thread nD τ) ↦{fullShare} f)) : sProp 𝕄) := by
  rw [← hs]; exact slots_join c M

/-! ## The order of the waits -/

theorem below_R (c : Dev nD) : ∀ p ∈ debtR c, p.1.1.2 = .tc ∧ 2 < lv p.1 () :=
  fun p hp => ⟨(debtR_lv c p hp).1, by rw [(debtR_lv c p hp).2]; decide⟩
theorem below_XR (c : Dev nD) : ∀ p ∈ debtX c ++ debtR c, p.1.1.2 = .tc ∧ 1 < lv p.1 () := by
  intro p hp
  rcases List.mem_append.mp hp with h | h
  · exact ⟨(debtX_lv c p h).1, by rw [(debtX_lv c p h).2]; decide⟩
  · exact ⟨(debtR_lv c p h).1, by rw [(debtR_lv c p h).2]; decide⟩

/-! ## The body -/

section Body

variable (K : Dev nD × CK → ℕ)

theorem close_all (c : Dev nD) :
    iprop(records m K ∗ bigSep Finset.univ fun k : CK => atPos ER (kcell (c, k)) 1 ∅ 0)
      ⊢ |={Set.univ}=> ((bigSep Finset.univ fun k : CK => semVal (kcell (c, k)) 0) : sProp 𝕄) := by
  rw [bigSep_CK, bigSep_CK]
  iintro ⟨#HR, HS⟩
  icases HS with ⟨H0, H1, H2, H3, H4, H5, H6, H7, H8, H9, H10, H11, H12⟩
  imod (close_cell m c K (none)) $$ [H0] with H0
  · isplitr; · iexact HR
    iexact H0
  imod (close_cell m c K (some (0, 0))) $$ [H1] with H1
  · isplitr; · iexact HR
    iexact H1
  imod (close_cell m c K (some (0, 1))) $$ [H2] with H2
  · isplitr; · iexact HR
    iexact H2
  imod (close_cell m c K (some (0, 2))) $$ [H3] with H3
  · isplitr; · iexact HR
    iexact H3
  imod (close_cell m c K (some (1, 0))) $$ [H4] with H4
  · isplitr; · iexact HR
    iexact H4
  imod (close_cell m c K (some (1, 1))) $$ [H5] with H5
  · isplitr; · iexact HR
    iexact H5
  imod (close_cell m c K (some (1, 2))) $$ [H6] with H6
  · isplitr; · iexact HR
    iexact H6
  imod (close_cell m c K (some (2, 0))) $$ [H7] with H7
  · isplitr; · iexact HR
    iexact H7
  imod (close_cell m c K (some (2, 1))) $$ [H8] with H8
  · isplitr; · iexact HR
    iexact H8
  imod (close_cell m c K (some (2, 2))) $$ [H9] with H9
  · isplitr; · iexact HR
    iexact H9
  imod (close_cell m c K (some (3, 0))) $$ [H10] with H10
  · isplitr; · iexact HR
    iexact H10
  imod (close_cell m c K (some (3, 1))) $$ [H11] with H11
  · isplitr; · iexact HR
    iexact H11
  imod (close_cell m c K (some (3, 2))) $$ [H12] with H12
  · isplitr; · iexact HR
    iexact H12
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

def bodyPre (c : Dev nD) : sProp 𝕄 :=
  iprop((ghost m K c ∗ creds c ∗ levAts L lv ∗ scrs c)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xst m c) ∗ stg c cc0_stg1_0 (asg m c)
    ∗ stg c cc0_stg2_0 (w1st m c) ∗ stg c cc0_stg3_0 (w2st m c) ∗ stg c cc0_stg4_0 (outAt m c))

set_option maxHeartbeats 4000000 in
set_option maxRecDepth 8000 in
/-- The body, one rule for each operation in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel
  simp only [semSignalWord, semWaitWord, Prog.lift, Prog.bind_op, Prog.bind_ret, Prog.pure_eq_ret, wp_deviceId]
  unfold bodyPre ghost payToks creds
  simp only [bigSep_fin3]
  rw [bigSep_CK]
  iintro ⟨⟨⟨⟨#HR, ⟨AtB, At00, At01, At02, At10, At11, At12, At20, At21, At22, At30, At31, At32⟩, ⟨TB0, TB1, TB2⟩, ⟨T00, T01, T02⟩, ⟨T10, T11, T12⟩, ⟨T20, T21, T22⟩, ⟨T30, T31, T32⟩⟩, ⟨HcB, ⟨C20, C21, C22⟩, ⟨C30, C31, C32⟩⟩, #Hlev, ⟨%f0, Hs0⟩, ⟨%f1, Hs1⟩, ⟨%f2, Hs2⟩, ⟨%f3, Hs3⟩⟩,
    Ho, ⟨%d0, %g0, %hg0, Hx⟩, ⟨%d1, %g1, %hg1, Ha⟩, ⟨%d2, %g2, %hg2, Hw1⟩, ⟨%d3, %g3, %hg3, Hw2⟩, ⟨%d4, %g4, %hg4, Hout⟩⟩, Hk⟩
  have hg0 : g0 = xst m c := by rw [hg0]; unfold Dat.before; rw [if_pos (fetch0_0 t0_0)]; rfl
  subst hg0
  have hg1 : g1 = asg m c := by rw [hg1]; unfold Dat.before; rw [if_pos (fetch0_1 t0_0)]; rfl
  subst hg1
  have hg2 : g2 = w1st m c := by rw [hg2]; unfold Dat.before; rw [if_pos (fetch0_2 t0_0)]; rfl
  subst hg2
  have hg3 : g3 = w2st m c := by rw [hg3]; unfold Dat.before; rw [if_pos (fetch0_3 t0_0)]; rfl
  subst hg3
  ihave Hs0 := (slots_of c xsM (View.set_whole _) f0) $$ Hs0
  ihave Hs1 := (slots_of c psM (View.set_whole _) f1) $$ Hs1
  ihave Hs2 := (slots_of c xrM (View.set_whole _) f2) $$ Hs2
  ihave Hs3 := (slots_of c rrM (View.set_whole _) f3) $$ Hs3
  unfold slots
  icases Hs0 with ⟨X0, X1, X2⟩
  icases Hs1 with ⟨P0, P1, P2⟩
  icases Hs2 with ⟨Y0, Y1, Y2⟩
  icases Hs3 with ⟨R0, R1, R2⟩
  unfold Dat.owesAt Pipeline.owesWithin
  icases Ho with ⟨%W, %hW, HO⟩
  rw [show (dats m ρ 0 c).owed t0_0.castSucc = owe ((barCell (up 0 c), 1) :: (barCell (up 1 c), 1) :: (barCell (up 2 c), 1) :: (debtX c ++ debtR c)) from rfl]
  iapply (signal_up m c K _ 0 (dev1_eq c) (by decide) ((barCell (up 1 c), 1) :: (barCell (up 2 c), 1) :: (debtX c ++ debtR c)) W) $$ [HO TB0 Y0 R0]
  · isplitr; · iexact HR
    isplitl [HO]; · iexact HO
    isplitl [TB0]; · iexact TB0
    isplitl [Y0] <;> iassumption
  iintro HO
  iapply (signal_up m c K _ 1 (dev2_eq c) (by decide) ((barCell (up 2 c), 1) :: (debtX c ++ debtR c)) W) $$ [HO TB1 Y1 R1]
  · isplitr; · iexact HR
    isplitl [HO]; · iexact HO
    isplitl [TB1]; · iexact TB1
    isplitl [Y1] <;> iassumption
  iintro HO
  iapply (signal_up m c K _ 2 (dev3_eq c) (by decide) (debtX c ++ debtR c) W) $$ [HO TB2 Y2 R2]
  · isplitr; · iexact HR
    isplitl [HO]; · iexact HO
    isplitl [TB2]; · iexact TB2
    isplitl [Y2] <;> iassumption
  iintro HO
  iapply (wait_bar m c K (by decide) (debtX c ++ debtR c) W (below_XR c)) $$ [HO AtB HcB]
  · isplitr; · iexact HR
    isplitr; · iexact Hlev
    isplitl [HO]; · iexact HO
    isplitl [AtB] <;> iassumption
  iintro ⟨HO, AtB, B0, B1, B2⟩
  unfold barPay
  icases B0 with ⟨Y0, R0⟩
  icases B1 with ⟨Y1, R1⟩
  icases B2 with ⟨Y2, R2⟩
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Ha; iintro Ha
  rw [read_a]
  iapply (wp_load 𝒱₀ (c : Thread nD τ) none Set.univ (m := aM) (Finset.subset_univ _)) $$ Ha; iintro Ha
  rw [read_a]
  iapply (load_any c xsM 0) $$ X0; iintro X0
  iapply (store_slot c xsM 0 (xsC m c 0)) $$ X0; iintro X0
  iapply (send_slot m c K _ 0 (dev4_eq c) xsM xrM 0 2 (xsC m c 0) (Laws.entails_refl _) (by show slotAt _ _ _ _ ⊢ slotAt _ _ _ _; rw [up_rv, rv_rv]) ([(dCell 2 (up 1 c) 1, N), (dCell 2 (up 2 c) 0, N), (dCell 3 (up 0 c) 2, N), (dCell 3 (up 1 c) 1, N), (dCell 3 (up 2 c) 0, N)]) (insert (SemLoc.reg barS, ()) W)) $$ [X0 Y2 HO T00 T20]
  · isplitr; · iexact HR
    isplitl [X0]; · iexact X0
    isplitl [Y2]; · iexact Y2
    isplitl [HO]; · iexact HO
    isplitl [T00] <;> iassumption
  iintro ⟨C00, HO⟩
  iapply (load_any c xsM 1) $$ X1; iintro X1
  iapply (store_slot c xsM 1 (xsC m c 1)) $$ X1; iintro X1
  iapply (send_slot m c K _ 1 (dev5_eq c) xsM xrM 0 2 (xsC m c 1) (Laws.entails_refl _) (by show slotAt _ _ _ _ ⊢ slotAt _ _ _ _; rw [up_rv, rv_rv]) ([(dCell 2 (up 2 c) 0, N), (dCell 3 (up 0 c) 2, N), (dCell 3 (up 1 c) 1, N), (dCell 3 (up 2 c) 0, N)]) (insert (SemLoc.reg barS, ()) W)) $$ [X1 Y1 HO T01 T21]
  · isplitr; · iexact HR
    isplitl [X1]; · iexact X1
    isplitl [Y1]; · iexact Y1
    isplitl [HO]; · iexact HO
    isplitl [T01] <;> iassumption
  iintro ⟨C01, HO⟩
  iapply (load_any c xsM 2) $$ X2; iintro X2
  iapply (store_slot c xsM 2 (xsC m c 2)) $$ X2; iintro X2
  iapply (send_slot m c K _ 2 (dev6_eq c) xsM xrM 0 2 (xsC m c 2) (Laws.entails_refl _) (by show slotAt _ _ _ _ ⊢ slotAt _ _ _ _; rw [up_rv, rv_rv]) ([(dCell 3 (up 0 c) 2, N), (dCell 3 (up 1 c) 1, N), (dCell 3 (up 2 c) 0, N)]) (insert (SemLoc.reg barS, ()) W)) $$ [X2 Y0 HO T02 T22]
  · isplitr; · iexact HR
    isplitl [X2]; · iexact X2
    isplitl [Y0]; · iexact Y0
    isplitl [HO]; · iexact HO
    isplitl [T02] <;> iassumption
  iintro ⟨C02, HO⟩
  iapply (wp_load 𝒱₀ (c : Thread nD τ) none Set.univ (m := w1M) (Finset.subset_univ _)) $$ Hw1; iintro Hw1
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  rw [read_w2]
  iapply (wait_d m c K 2 0 (dst := slot xrM 0) 2 (le_of_eq (lv_d 2 c 0)) rfl ([(dCell 3 (up 0 c) 2, N), (dCell 3 (up 1 c) 1, N), (dCell 3 (up 2 c) 0, N)]) (insert (SemLoc.reg barS, ()) W) (fun p hp => below_R c p hp)) $$ [HO At20 C20]
  · isplitr; · iexact HR
    isplitr; · iexact Hlev
    isplitl [HO]; · iexact HO
    isplitl [At20] <;> iassumption
  iintro ⟨HO, At20, Y0⟩
  ihave Y0 := (Entails.of_eq (show pay m c (some (2, 0)) 0 = slotAt c xrM 0 (xsC m (up 0 c) 2) from rfl)) $$ Y0
  iapply (load_slot c xrM 0 (xsC m (up 0 c) 2)) $$ Y0; iintro Y0
  iapply (load_any c psM 0) $$ P0; iintro P0
  iapply (store_slot c psM 0 (psC m c 0)) $$ P0; iintro P0
  iapply (send_slot m c K _ 0 (dev7_eq c) psM rrM 1 3 (psC m c 0) (Laws.entails_refl _) (by show slotAt _ _ _ _ ⊢ slotAt _ _ _ _; rw [up_rv, rv_rv]) ([(dCell 3 (up 1 c) 1, N), (dCell 3 (up 2 c) 0, N)]) (insert (SemLoc.dma (semAt (semArr 2) 0), ()) (insert (SemLoc.reg barS, ()) W))) $$ [P0 R2 HO T10 T30]
  · isplitr; · iexact HR
    isplitl [P0]; · iexact P0
    isplitl [R2]; · iexact R2
    isplitl [HO]; · iexact HO
    isplitl [T10] <;> iassumption
  iintro ⟨C10, HO⟩
  iapply (wait_d m c K 2 1 (dst := slot xrM 1) 2 (le_of_eq (lv_d 2 c 1)) rfl ([(dCell 3 (up 1 c) 1, N), (dCell 3 (up 2 c) 0, N)]) (insert (SemLoc.dma (semAt (semArr 2) 0), ()) (insert (SemLoc.reg barS, ()) W)) (fun p hp => below_R c p (List.mem_cons_of_mem _ hp))) $$ [HO At21 C21]
  · isplitr; · iexact HR
    isplitr; · iexact Hlev
    isplitl [HO]; · iexact HO
    isplitl [At21] <;> iassumption
  iintro ⟨HO, At21, Y1⟩
  ihave Y1 := (Entails.of_eq (show pay m c (some (2, 1)) 0 = slotAt c xrM 1 (xsC m (up 1 c) 1) from rfl)) $$ Y1
  iapply (load_slot c xrM 1 (xsC m (up 1 c) 1)) $$ Y1; iintro Y1
  iapply (load_any c psM 1) $$ P1; iintro P1
  iapply (store_slot c psM 1 (psC m c 1)) $$ P1; iintro P1
  iapply (send_slot m c K _ 1 (dev8_eq c) psM rrM 1 3 (psC m c 1) (Laws.entails_refl _) (by show slotAt _ _ _ _ ⊢ slotAt _ _ _ _; rw [up_rv, rv_rv]) ([(dCell 3 (up 2 c) 0, N)]) (insert (SemLoc.dma (semAt (semArr 2) 1), ()) (insert (SemLoc.dma (semAt (semArr 2) 0), ()) (insert (SemLoc.reg barS, ()) W)))) $$ [P1 R1 HO T11 T31]
  · isplitr; · iexact HR
    isplitl [P1]; · iexact P1
    isplitl [R1]; · iexact R1
    isplitl [HO]; · iexact HO
    isplitl [T11] <;> iassumption
  iintro ⟨C11, HO⟩
  iapply (wait_d m c K 2 2 (dst := slot xrM 2) 2 (le_of_eq (lv_d 2 c 2)) rfl ([(dCell 3 (up 2 c) 0, N)]) (insert (SemLoc.dma (semAt (semArr 2) 1), ()) (insert (SemLoc.dma (semAt (semArr 2) 0), ()) (insert (SemLoc.reg barS, ()) W))) (fun p hp => below_R c p (List.mem_cons_of_mem _ (List.mem_cons_of_mem _ hp)))) $$ [HO At22 C22]
  · isplitr; · iexact HR
    isplitr; · iexact Hlev
    isplitl [HO]; · iexact HO
    isplitl [At22] <;> iassumption
  iintro ⟨HO, At22, Y2⟩
  ihave Y2 := (Entails.of_eq (show pay m c (some (2, 2)) 0 = slotAt c xrM 2 (xsC m (up 2 c) 0) from rfl)) $$ Y2
  iapply (load_slot c xrM 2 (xsC m (up 2 c) 0)) $$ Y2; iintro Y2
  iapply (load_any c psM 2) $$ P2; iintro P2
  iapply (store_slot c psM 2 (psC m c 2)) $$ P2; iintro P2
  iapply (send_slot m c K _ 2 (dev9_eq c) psM rrM 1 3 (psC m c 2) (Laws.entails_refl _) (by show slotAt _ _ _ _ ⊢ slotAt _ _ _ _; rw [up_rv, rv_rv]) ([]) (insert (SemLoc.dma (semAt (semArr 2) 2), ()) (insert (SemLoc.dma (semAt (semArr 2) 1), ()) (insert (SemLoc.dma (semAt (semArr 2) 0), ()) (insert (SemLoc.reg barS, ()) W))))) $$ [P2 R0 HO T12 T32]
  · isplitr; · iexact HR
    isplitl [P2]; · iexact P2
    isplitl [R0]; · iexact R0
    isplitl [HO]; · iexact HO
    isplitl [T12] <;> iassumption
  iintro ⟨C12, HO⟩
  iapply (wait_d m c K 3 0 (dst := slot rrM 0) 3 (le_of_eq (lv_d 3 c 0)) rfl ([]) (insert (SemLoc.dma (semAt (semArr 2) 2), ()) (insert (SemLoc.dma (semAt (semArr 2) 1), ()) (insert (SemLoc.dma (semAt (semArr 2) 0), ()) (insert (SemLoc.reg barS, ()) W)))) (fun p hp => absurd hp List.not_mem_nil)) $$ [HO At30 C30]
  · isplitr; · iexact HR
    isplitr; · iexact Hlev
    isplitl [HO]; · iexact HO
    isplitl [At30] <;> iassumption
  iintro ⟨HO, At30, R0⟩
  ihave R0 := (Entails.of_eq (show pay m c (some (3, 0)) 0 = slotAt c rrM 0 (psC m (up 0 c) 2) from rfl)) $$ R0
  iapply (load_slot c rrM 0 (psC m (up 0 c) 2)) $$ R0; iintro R0
  iapply (wait_d m c K 3 1 (dst := slot rrM 1) 3 (le_of_eq (lv_d 3 c 1)) rfl ([]) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W))))) (fun p hp => absurd hp List.not_mem_nil)) $$ [HO At31 C31]
  · isplitr; · iexact HR
    isplitr; · iexact Hlev
    isplitl [HO]; · iexact HO
    isplitl [At31] <;> iassumption
  iintro ⟨HO, At31, R1⟩
  ihave R1 := (Entails.of_eq (show pay m c (some (3, 1)) 0 = slotAt c rrM 1 (psC m (up 1 c) 1) from rfl)) $$ R1
  iapply (load_slot c rrM 1 (psC m (up 1 c) 1)) $$ R1; iintro R1
  iapply (wait_d m c K 3 2 (dst := slot rrM 2) 3 (le_of_eq (lv_d 3 c 2)) rfl ([]) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W)))))) (fun p hp => absurd hp List.not_mem_nil)) $$ [HO At32 C32]
  · isplitr; · iexact HR
    isplitr; · iexact Hlev
    isplitl [HO]; · iexact HO
    isplitl [At32] <;> iassumption
  iintro ⟨HO, At32, R2⟩
  ihave R2 := (Entails.of_eq (show pay m c (some (3, 2)) 0 = slotAt c rrM 2 (psC m (up 2 c) 0) from rfl)) $$ R2
  iapply (load_slot c rrM 2 (psC m (up 2 c) 0)) $$ R2; iintro R2
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  iapply (wait_d m c K 0 0 (dst := slot xsM 0) 0 (le_of_eq (lv_d 0 c 0)) rfl ([]) (insert (SemLoc.dma (semAt (semArr 3) 2), ()) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W))))))) (fun p hp => absurd hp List.not_mem_nil)) $$ [HO At00 C00]
  · isplitr; · iexact HR
    isplitr; · iexact Hlev
    isplitl [HO]; · iexact HO
    isplitl [At00] <;> iassumption
  iintro ⟨HO, At00, X0⟩
  ihave X0 := (Entails.of_eq (show pay m c (some (0, 0)) 0 = slotAt c xsM 0 (xsC m c 0) from rfl)) $$ X0
  iapply (wait_d m c K 0 1 (dst := slot xsM 1) 0 (le_of_eq (lv_d 0 c 1)) rfl ([]) (insert (SemLoc.dma (semAt (semArr 0) 0), ()) (insert (SemLoc.dma (semAt (semArr 3) 2), ()) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W)))))))) (fun p hp => absurd hp List.not_mem_nil)) $$ [HO At01 C01]
  · isplitr; · iexact HR
    isplitr; · iexact Hlev
    isplitl [HO]; · iexact HO
    isplitl [At01] <;> iassumption
  iintro ⟨HO, At01, X1⟩
  ihave X1 := (Entails.of_eq (show pay m c (some (0, 1)) 0 = slotAt c xsM 1 (xsC m c 1) from rfl)) $$ X1
  iapply (wait_d m c K 0 2 (dst := slot xsM 2) 0 (le_of_eq (lv_d 0 c 2)) rfl ([]) (insert (SemLoc.dma (semAt (semArr 0) 1), ()) (insert (SemLoc.dma (semAt (semArr 0) 0), ()) (insert (SemLoc.dma (semAt (semArr 3) 2), ()) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W))))))))) (fun p hp => absurd hp List.not_mem_nil)) $$ [HO At02 C02]
  · isplitr; · iexact HR
    isplitr; · iexact Hlev
    isplitl [HO]; · iexact HO
    isplitl [At02] <;> iassumption
  iintro ⟨HO, At02, X2⟩
  ihave X2 := (Entails.of_eq (show pay m c (some (0, 2)) 0 = slotAt c xsM 2 (xsC m c 2) from rfl)) $$ X2
  iapply (wait_d m c K 1 0 (dst := slot psM 0) 0 (le_of_eq (lv_d 1 c 0)) rfl ([]) (insert (SemLoc.dma (semAt (semArr 0) 2), ()) (insert (SemLoc.dma (semAt (semArr 0) 1), ()) (insert (SemLoc.dma (semAt (semArr 0) 0), ()) (insert (SemLoc.dma (semAt (semArr 3) 2), ()) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W)))))))))) (fun p hp => absurd hp List.not_mem_nil)) $$ [HO At10 C10]
  · isplitr; · iexact HR
    isplitr; · iexact Hlev
    isplitl [HO]; · iexact HO
    isplitl [At10] <;> iassumption
  iintro ⟨HO, At10, P0⟩
  ihave P0 := (Entails.of_eq (show pay m c (some (1, 0)) 0 = slotAt c psM 0 (psC m c 0) from rfl)) $$ P0
  iapply (wait_d m c K 1 1 (dst := slot psM 1) 0 (le_of_eq (lv_d 1 c 1)) rfl ([]) (insert (SemLoc.dma (semAt (semArr 1) 0), ()) (insert (SemLoc.dma (semAt (semArr 0) 2), ()) (insert (SemLoc.dma (semAt (semArr 0) 1), ()) (insert (SemLoc.dma (semAt (semArr 0) 0), ()) (insert (SemLoc.dma (semAt (semArr 3) 2), ()) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W))))))))))) (fun p hp => absurd hp List.not_mem_nil)) $$ [HO At11 C11]
  · isplitr; · iexact HR
    isplitr; · iexact Hlev
    isplitl [HO]; · iexact HO
    isplitl [At11] <;> iassumption
  iintro ⟨HO, At11, P1⟩
  ihave P1 := (Entails.of_eq (show pay m c (some (1, 1)) 0 = slotAt c psM 1 (psC m c 1) from rfl)) $$ P1
  iapply (wait_d m c K 1 2 (dst := slot psM 2) 0 (le_of_eq (lv_d 1 c 2)) rfl ([]) (insert (SemLoc.dma (semAt (semArr 1) 1), ()) (insert (SemLoc.dma (semAt (semArr 1) 0), ()) (insert (SemLoc.dma (semAt (semArr 0) 2), ()) (insert (SemLoc.dma (semAt (semArr 0) 1), ()) (insert (SemLoc.dma (semAt (semArr 0) 0), ()) (insert (SemLoc.dma (semAt (semArr 3) 2), ()) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W)))))))))))) (fun p hp => absurd hp List.not_mem_nil)) $$ [HO At12 C12]
  · isplitr; · iexact HR
    isplitr; · iexact Hlev
    isplitl [HO]; · iexact HO
    isplitl [At12] <;> iassumption
  iintro ⟨HO, At12, P2⟩
  ihave P2 := (Entails.of_eq (show pay m c (some (1, 2)) 0 = slotAt c psM 2 (psC m c 2) from rfl)) $$ P2
  imod (close_all m K c) $$ [AtB At00 At01 At02 At10 At11 At12 At20 At21 At22 At30 At31 At32] with Hz
  · isplitr; · iexact HR
    rw [bigSep_CK]
    isplitl [AtB]; · iexact AtB
    isplitl [At00]; · iexact At00
    isplitl [At01]; · iexact At01
    isplitl [At02]; · iexact At02
    isplitl [At10]; · iexact At10
    isplitl [At11]; · iexact At11
    isplitl [At12]; · iexact At12
    isplitl [At20]; · iexact At20
    isplitl [At21]; · iexact At21
    isplitl [At22]; · iexact At22
    isplitl [At30]; · iexact At30
    isplitl [At31]; · iexact At31
    iexact At32
  rw [wp_ret]; imodintro
  iapply Hk
  unfold bodyPost Φ₁ Dat.owesAt Pipeline.owesWithin
  rw [show (dats m ρ 0 c).owed t0_0.succ = 0 from rfl]
  isplitr [HO Hx Ha Hw1 Hw2 Hout]
  · isplitr [Hz]
    · isplitl [X0 X1 X2]
      · iapply (slots_to c xsM (View.set_whole _))
        unfold slots
        isplitl [X0]; · (iapply slotAt_any; iexact X0)
        isplitl [X1]; · (iapply slotAt_any; iexact X1)
        iapply slotAt_any; iexact X2
      isplitl [P0 P1 P2]
      · iapply (slots_to c psM (View.set_whole _))
        unfold slots
        isplitl [P0]; · (iapply slotAt_any; iexact P0)
        isplitl [P1]; · (iapply slotAt_any; iexact P1)
        iapply slotAt_any; iexact P2
      isplitl [Y0 Y1 Y2]
      · iapply (slots_to c xrM (View.set_whole _))
        unfold slots
        isplitl [Y0]; · (iapply slotAt_any; iexact Y0)
        isplitl [Y1]; · (iapply slotAt_any; iexact Y1)
        iapply slotAt_any; iexact Y2
      iapply (slots_to c rrM (View.set_whole _))
      unfold slots
      isplitl [R0]; · (iapply slotAt_any; iexact R0)
      isplitl [R1]; · (iapply slotAt_any; iexact R1)
      iapply slotAt_any; iexact R2
    · iexact Hz
  isplitl [HO]
  · iexists (insert (SemLoc.dma (semAt (semArr 1) 2), ()) (insert (SemLoc.dma (semAt (semArr 1) 1), ()) (insert (SemLoc.dma (semAt (semArr 1) 0), ()) (insert (SemLoc.dma (semAt (semArr 0) 2), ()) (insert (SemLoc.dma (semAt (semArr 0) 1), ()) (insert (SemLoc.dma (semAt (semArr 0) 0), ()) (insert (SemLoc.dma (semAt (semArr 3) 2), ()) (insert (SemLoc.dma (semAt (semArr 3) 1), ()) (insert (SemLoc.dma (semAt (semArr 3) 0), ()) (insert (SemLoc.dma (semAt (semArr 2) 2), ()) (insert (SemLoc.dma (semAt (semArr 2) 1), ()) (insert (SemLoc.dma (semAt (semArr 2) 0), ()) (insert (SemLoc.reg barS, ()) W)))))))))))))
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

set_option maxRecDepth 4000 in
def bodyPre' (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) (fun _ => bodyPost m ρ c)
  unfold bodyPre' Φ₀ start
  iintro ⟨⟨⟨⟨%K, Hg⟩, Hc, Hl⟩, Hs⟩, Ho, Hw⟩
  iapply (sound_body m ρ K c fun _ => bodyPost m ρ c)
  unfold bodyPre
  isplitr []
  · isplitl [Hg Hc Hl Hs]
    · isplitl [Hg]; · iexact Hg
      isplitl [Hc]; · iexact Hc
      isplitl [Hl] <;> iassumption
    isplitl [Ho] <;> iassumption
  · iintro H; iexact H

end Body

end Cert.KernelIdeal.Exchange

end
-- ==== Proof.KernelIdealRun.lean ====
/-
The launch of the exchange: its cells and duty tokens are dealt to the four devices, every device's body is run, and each
device's result array holds the computed contents at the end.
-/
module

public import proofs.«01_k».proof.Proof.KernelIdealBody
public import Idealize.ShloMosaic.Lib.Pipeline.CollectiveSegs
public import Idealize.ShloMosaic.Lib.Pipeline.ValueKit
public import Idealize.ShloMosaic.Lib.Claim

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens at launch -/

def allCells : Finset (GSem nD τ sig) := Finset.univ.map ⟨kcell, kcell_injective⟩

/-- The duty tokens of a device's own cells: kind `none` is the barrier's three, kind `k` the one of each slot. -/
abbrev tokOf (x : Dev nD × Option (Fin 4) × Fin 3) : GSem nD τ sig × ℕ × Fin 3 := match x.2.1 with
  | none => (barCell x.1, 0, x.2.2)
  | some k => (dCell k x.1 x.2.2, 0, 0)
theorem tokOf_injective : Function.Injective tokOf := by
  rintro ⟨c, _ | k, i⟩ ⟨c', _ | k', i'⟩ h
  · have h1 : c = c' := congrArg (fun x : GSem nD τ sig × ℕ × Fin 3 => x.1.1.1) h
    have h2 : i = i' := congrArg (fun x : GSem nD τ sig × ℕ × Fin 3 => x.2.2) h
    rw [h1, h2]
  · have h3 : kcell (c, none) = kcell (c', some (k', i')) := congrArg Prod.fst h
    cases congrArg Prod.snd (kcell_injective h3)
  · have h3 : kcell (c, some (k, i)) = kcell (c', none) := congrArg Prod.fst h
    cases congrArg Prod.snd (kcell_injective h3)
  · have h3 : kcell (c, some (k, i)) = kcell (c', some (k', i')) := congrArg Prod.fst h
    have h4 := kcell_injective h3
    cases h4; rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of one kind of device `c`'s own cells. -/
def barToks (c : Dev nD) : sProp 𝕄 := bigSep Finset.univ fun i : Fin 3 => dutyTok ER (barCell c) 0 i
def kToks (k : Fin 4) (c : Dev nD) : sProp 𝕄 := bigSep Finset.univ fun i : Fin 3 => dutyTok ER (dCell k c i) 0 0
def toks (c : Dev nD) : sProp 𝕄 := iprop(barToks (F := F) c ∗ kToks 0 c ∗ kToks 1 c ∗ kToks 2 c ∗ kToks 3 c)

/-- What a device is dealt at launch, -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
/-- and what it enters its body with. -/
def G' (c : Dev nD) : sProp 𝕄 := iprop(∃ K, ghost m K c)

omit [FloatOps F] in
theorem bigSep_kinds (Φ : Option (Fin 4) → sProp 𝕄) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem allCells_sep (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

theorem allToks_sep : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_prod, bigSep_kinds]; rfl

theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst := (Entails.of_eq (allCells_sep fun g => roundState ER (Rd m) g 0)) $$ Hst
  ihave Hat := (Entails.of_eq (allCells_sep fun g => atPos ER g 0 ∅ 0)) $$ Hat
  ihave Hr := (Entails.of_eq (allCells_sep fun g => reached ER g 0)) $$ Hr
  ihave Htok := (Entails.of_eq allToks_sep) $$ Htok
  unfold G; simp only [bigSep_sep']
  isplitl [Hst]; · iexact Hst
  isplitl [Hat Hr]
  · isplitl [Hat] <;> iassumption
  iexact Htok

/-- The kernel's own twelve counters and the barrier's are the thirteen cells'. -/
theorem sems_eq (c : Dev nD) : (bigSep Finset.univ fun k : CK => semVal (kcell (c, k)) 0 : sProp 𝕄)
    = iprop(unscopedSems0 c ∗ Pipeline.ownSems0 (Ix := Unit) (Name := ℕ) (U := UU) (Lvl := ℕ) (Val := Elt F) (τ := τ) osem c) := by
  have h1 : (unscopedSems0 c : sProp 𝕄) = semVal (barCell c) 0 := by
    unfold unscopedSems0; rw [bigSep_eq_bigSepL_of_eq [SemLoc.reg barS] (by decide) (by decide)]; rfl
  have h2 : (Finset.univ : Finset CK).erase none = (Finset.univ : Finset (Fin 4 × Fin 3)).map Function.Embedding.some := by decide
  rw [h1, bigSep_univ_at _ (none : CK), h2, bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  have hinv : iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Ho, Hu, Hst, Hat, Htok⟩
  ihave Hv := (Entails.of_eq (sems_eq (F := F) c).symm) $$ [Ho Hu]
  · isplitl [Hu] <;> iassumption
  imod hinv $$ [Hv Hst] with Hinv
  · isplitl [Hv] <;> iassumption
  imodintro
  isplitl [Hinv]; · iexact Hinv
  isplitl [Hat] <;> iassumption

/-! ## Every token to the device that pays with it -/

/-- Slot `i` of a device to slot `i` of the device `i + 1` places on, -/
def across : Dev nD × Fin 3 ≃ Dev nD × Fin 3 where
  toFun x := (up x.2 x.1, x.2)
  invFun x := (up (rv x.2) x.1, x.2)
  left_inv x := Prod.ext (up_rv x.2 x.1) rfl
  right_inv x := Prod.ext (up_rv' x.2 x.1) rfl
/-- or to the slot its transfer lands on. -/
def acrossR : Dev nD × Fin 3 ≃ Dev nD × Fin 3 where
  toFun x := (up x.2 x.1, rv x.2)
  invFun x := (up x.2 x.1, rv x.2)
  left_inv x := Prod.ext (up_rv x.2 x.1) (rv_rv x.2)
  right_inv x := Prod.ext (up_rv x.2 x.1) (rv_rv x.2)

theorem deal (e : Dev nD × Fin 3 ≃ Dev nD × Fin 3) (Φ : Dev nD × Fin 3 → sProp 𝕄) :
    (bigSep Finset.univ fun c : Dev nD => bigSep Finset.univ fun i : Fin 3 => Φ (c, i))
      = bigSep Finset.univ fun c : Dev nD => bigSep Finset.univ fun i : Fin 3 => Φ (e (c, i)) := by
  rw [← bigSep_univ_prod Φ, ← bigSep_univ_prod fun x => Φ (e x)]
  exact bigSep_univ_equiv e Φ

theorem deal_bar : (bigSep Finset.univ fun c : Dev nD => (barToks c : sProp 𝕄))
    = bigSep Finset.univ fun c : Dev nD => bigSep Finset.univ fun i : Fin 3 => dutyTok ER (barCell (up i c)) 0 i :=
  deal across fun x => dutyTok ER (barCell x.1) 0 x.2
theorem deal_k (k : Fin 4) : (bigSep Finset.univ fun c : Dev nD => (kToks k c : sProp 𝕄))
    = bigSep Finset.univ fun c : Dev nD => bigSep Finset.univ fun i : Fin 3 => dutyTok ER (dCell k (up i c) (rv i)) 0 0 :=
  deal acrossR fun x => dutyTok ER (dCell k x.1 x.2) 0 0

theorem toks_dealt : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', deal_bar, deal_k 2, deal_k 3]
  unfold kToks
  iintro ⟨H0, H1, H2, H3, H4⟩
  isplitl [H0]; · iexact H0
  isplitl [H1]; · iexact H1
  isplitl [H2]; · iexact H2
  isplitl [H3] <;> iassumption

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with device `c` alone. -/
def own' (c : Dev nD) : sProp 𝕄 := iprop((bigSep Finset.univ fun k : CK => atPos ER (kcell (c, k)) 0 ∅ 0) ∗ payToks c)

theorem ghost_intro (K : Dev nD × CK → ℕ) (c : Dev nD) : iprop(records m K ∗ own' c) ⊢ G' m c := by
  unfold own' G' ghost
  iintro ⟨HR, Ha, Ht⟩
  iexists K
  isplitl [HR]; · iexact HR
  isplitl [Ha] <;> iassumption

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_dealt (F := F)) $$ Htok
  iapply (bigSep_with (R := records m K) fun c _ => ghost_intro m K c)
  isplitr
  · unfold records; isplitl; · iexact HI
    iexact HR
  · unfold own'
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the cells are owed -/

/-- What device `d` owes, by cell numbers. -/
def debts (d : Dev nD) : List ((Dev nD × CK) × ℕ) :=
  [((up 0 d, none), 1), ((up 1 d, none), 1), ((up 2 d, none), 1),
    ((up 0 d, some (2, 2)), N), ((up 1 d, some (2, 1)), N), ((up 2 d, some (2, 0)), N),
    ((up 0 d, some (3, 2)), N), ((up 1 d, some (3, 1)), N), ((up 2 d, some (3, 0)), N)]

theorem owed (d : Dev nD) (x : Dev nD × CK) : O₀ d (kcell x) () = ((debts d).map fun q => if x = q.1 then q.2 else 0).sum := by
  have h : debtB d ++ debtX d ++ debtR d = (debts d).map fun q => (kcell q.1, q.2) := rfl
  unfold O₀
  rw [owe_apply, h, List.map_map]
  refine congrArg List.sum (List.map_congr_left fun q _ => ?_)
  show (if kcell x = kcell q.1 then q.2 else 0) = _
  by_cases hx : x = q.1
  · rw [if_pos hx, if_pos (congrArg kcell hx)]
  · rw [if_neg hx, if_neg fun e => hx (kcell_injective e)]

theorem up_eq (i : Fin 3) (c d : Dev nD) : (c = up i d) = (d = up (rv i) c) :=
  propext ⟨fun h => by rw [h, up_rv], fun h => by rw [h, up_rv']⟩

theorem owed_bar (d c : Dev nD) : O₀ d (barCell c) () = (if c = up 0 d then 1 else 0) + ((if c = up 1 d then 1 else 0) + (if c = up 2 d then 1 else 0)) := by
  refine (owed d (c, none)).trans ?_
  simp [debts]

theorem owed_x (d c : Dev nD) (i : Fin 3) : O₀ d (dCell 2 c i) () = if d = up i c then N else 0 := by
  refine (owed d (c, some (2, i))).trans ?_
  have h0 : (c = up 0 d) = (d = up 2 c) := up_eq 0 c d
  have h1 : (c = up 1 d) = (d = up 1 c) := up_eq 1 c d
  have h2 : (c = up 2 d) = (d = up 0 c) := up_eq 2 c d
  fin_cases i <;> simp [debts, h0, h1, h2]

theorem owed_r (d c : Dev nD) (i : Fin 3) : O₀ d (dCell 3 c i) () = if d = up i c then N else 0 := by
  refine (owed d (c, some (3, i))).trans ?_
  have h0 : (c = up 0 d) = (d = up 2 c) := up_eq 0 c d
  have h1 : (c = up 1 d) = (d = up 1 c) := up_eq 1 c d
  have h2 : (c = up 2 d) = (d = up 0 c) := up_eq 2 c d
  fin_cases i <;> simp [debts, h0, h1, h2]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_x (c : Dev nD) (i : Fin 3) :
    tallyOn (dCell 2 c i) (launchCredit (Pipeline.owing O₀) 0 (dCell 2 c i)) = (tallyAt (dCell 2 c i) () N : CellTallies nD τ sig Unit) := by
  unfold tallyAt; refine congrArg _ (Finsupp.ext fun u => ?_); cases u
  rw [Pipeline.launchCredit_owing, Finsupp.single_eq_same, Finset.sum_congr rfl fun d _ => owed_x d c i, Finset.sum_ite_eq' Finset.univ (up i c) fun _ => N,
    if_pos (Finset.mem_univ _)]
theorem launch_r (c : Dev nD) (i : Fin 3) :
    tallyOn (dCell 3 c i) (launchCredit (Pipeline.owing O₀) 0 (dCell 3 c i)) = (tallyAt (dCell 3 c i) () N : CellTallies nD τ sig Unit) := by
  unfold tallyAt; refine congrArg _ (Finsupp.ext fun u => ?_); cases u
  rw [Pipeline.launchCredit_owing, Finsupp.single_eq_same, Finset.sum_congr rfl fun d _ => owed_r d c i, Finset.sum_ite_eq' Finset.univ (up i c) fun _ => N,
    if_pos (Finset.mem_univ _)]

theorem creds_intro (c : Dev nD) : (Pipeline.launchCred O₀ c : sProp 𝕄) ⊢ creds c := by
  unfold Pipeline.launchCred creds
  have hs : (Finset.univ : Finset CK).map ⟨csem, csem_injective⟩ ⊆ (Finset.univ : Finset (SemLoc sig)) := Finset.subset_univ _
  refine BIBase.Entails.trans (bigSep_subset hs) ?_
  rw [bigSep_map, bigSep_CK]
  simp only [bigSep_fin3]
  rw [← launch_bar c]
  simp only [← launch_x c, ← launch_r c]
  iintro ⟨HB, -, -, -, -, -, -, H0, H1, H2, H3, H4, H5⟩
  isplitl [HB]; · iexact HB
  isplitl [H0 H1 H2]
  · isplitl [H0]; · iexact H0
    isplitl [H1] <;> iassumption
  · isplitl [H3]; · iexact H3
    isplitl [H4] <;> iassumption

/-! ## Entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨Hr, Hu, Ho⟩
  isplitl [Hu]; · iexact Hu
  isplitl [Ho] <;> iassumption

theorem mayWait_stage (c : Dev nD) (sm : SemLoc sig) (h : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine mayWait_below c sm 0 _ (le_of_eq h) fun p hp => ?_
    rcases List.mem_append.mp hp with hp | hp
    · rcases List.mem_append.mp hp with hp | hp
      · exact ⟨(debtB_lv c p hp).1, by rw [(debtB_lv c p hp).2]; decide⟩
      · exact ⟨(debtX_lv c p hp).1, by rw [(debtX_lv c p hp).2]; decide⟩
    · exact ⟨(debtR_lv c p hp).1, by rw [(debtR_lv c p hp).2]; decide⟩
  · rw [MayWait_zero]; iintro -; iempintro

/-- A semaphore that is none of the exchange's is at level 0. -/
theorem lv_other (c : Dev nD) (sm : SemLoc sig) (h : ∀ k : CK, csem k ≠ sm) : lv ((c : Thread nD τ), sm) () = 0 := by
  unfold lv ofSem
  rw [dif_neg fun ⟨k, hk⟩ => h k hk]

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_other c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair execution terminates, with each window's array at its final contents on
    every device and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds what it held, -/
theorem finalA_in (c : Dev nD) (w : Fin cfg0.W) (h : (cfg0.win w).isOut = false) :
    finalA m ρ c w = m ((cfg0.win w).arr.view.loc (c : Thread nD τ)) := (dats (F := F) m ρ 0 c).arrAt_in w h _

theorem winIdx : ∀ t : Fin cfg0.N, win0_0.index t = ![0, 0] ∧ win0_1.index t = ![0] ∧ win0_2.index t = ![0, 0, 0]
    ∧ win0_3.index t = ![0, 0, 0] ∧ win0_4.index t = ![0, 0] :=
  (by decide +kernel : ∀ t : Fin grid0.N, _)

/-- the result's what the body computed. -/
theorem finalA_out (c : Dev nD) : finalA m ρ c (4 : Fin 5) = outAt m c := by
  refine (dats (F := F) m ρ 0 c).arrAt_eq_of_after_last (4 : Fin 5) t0_0 (by decide +kernel) _ fun j => ?_
  refine congrArg (outAt m c) (?_ : _ = j)
  blk_ext [winIdx t0_0]

/-! Every window is its whole array. -/

theorem xst_eq (c : Dev nD) : xst m c = m ((c : Thread nD τ).loc main_arg0) := by
  unfold xst; blk_ext! [iblk, V, winIdx t0_0]
theorem asg_eq (c : Dev nD) : asg m c = m ((c : Thread nD τ).loc main_arg1) := by
  unfold asg; blk_ext! [iblk, V, winIdx t0_0]
theorem w1st_eq (c : Dev nD) : w1st m c = m ((c : Thread nD τ).loc main_arg2) := by
  unfold w1st; blk_ext! [iblk, V, winIdx t0_0]
theorem w2st_eq (c : Dev nD) : w2st m c = m ((c : Thread nD τ).loc main_arg3) := by
  unfold w2st; blk_ext! [iblk, V, winIdx t0_0]

/-- The run, by the arrays' names: each device's result at the computed contents, its arguments unchanged, every counter zero. -/
theorem run_value : θ_run defs (onTc (τ := τ) (main (F := F))) (s₀ m ρ) (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r ⟨h, hs⟩ => ⟨fun c =>
    ⟨(h c (4 : Fin 5)).trans (finalA_out m ρ c), (h c (0 : Fin 5)).trans (finalA_in m ρ c (0 : Fin 5) rfl), (h c (1 : Fin 5)).trans (finalA_in m ρ c (1 : Fin 5) rfl),
      (h c (2 : Fin 5)).trans (finalA_in m ρ c (2 : Fin 5) rfl), (h c (3 : Fin 5)).trans (finalA_in m ρ c (3 : Fin 5) rfl)⟩, hs⟩) (run_main m ρ)

end Cert.KernelIdeal.Exchange

end
-- ==== Proof.Dispatch.lean ====
/-
Packing tokens by expert: counting, no program.

`e t` is the expert of token `t`, seen from the token's device. The kernel gives the token the place that is the number
of earlier tokens of the same expert, in the half of a 192-row group that belongs to the expert. When no expert has more than
96 tokens the places are distinct, so a sum against the 0/1 matrix of places picks one term.
-/
module

public import Mathlib.Data.EReal.Operations
public import Mathlib.Algebra.BigOperators.Fin
public import Mathlib.Data.Fintype.BigOperators

@[expose] public section

noncomputable section

namespace Cert.Dispatch

variable (e : Fin 512 → Fin 8)

/-- How many tokens before `t` go to expert `b`. -/
def cnt (b : Fin 8) (t : Fin 512) : ℕ := (Finset.univ.filter fun x : Fin 512 => x < t ∧ e x = b).card

/-- No expert has more than 96 tokens. -/
def Fits : Prop := ∀ b : Fin 8, (Finset.univ.filter fun x : Fin 512 => e x = b).card ≤ 96

/-- Token `t` has row `r` of the group of experts `b₀` and `b₁`. -/
def Hit (b₀ b₁ : Fin 8) (r : Fin 192) (t : Fin 512) : Prop :=
  (cnt e b₀ t = r.val ∧ e t = b₀) ∨ (cnt e b₁ t + 96 = r.val ∧ e t = b₁)

instance (b₀ b₁ : Fin 8) (r : Fin 192) (t : Fin 512) : Decidable (Hit e b₀ b₁ r t) := by unfold Hit; infer_instance

theorem cnt_le (b : Fin 8) (t : Fin 512) : cnt e b t ≤ 512 := (Finset.card_le_univ _).trans (by simp)

variable {e}

/-- The count grows at a token of the expert, -/
theorem cnt_lt_cnt {x t : Fin 512} (h : x < t) : cnt e (e x) x < cnt e (e x) t := by
  refine Finset.card_lt_card ⟨fun y hy => ?_, fun hs => ?_⟩
  · rw [Finset.mem_filter] at hy ⊢
    exact ⟨hy.1, hy.2.1.trans h, hy.2.2⟩
  · have := hs (Finset.mem_filter.2 ⟨Finset.mem_univ x, h, rfl⟩)
    exact lt_irrefl _ (Finset.mem_filter.1 this).2.1

/-- so two tokens of one expert with one count are the same, -/
theorem eq_of_cnt {b : Fin 8} {x t : Fin 512} (hx : e x = b) (ht : e t = b) (h : cnt e b x = cnt e b t) : x = t := by
  rcases lt_trichotomy x t with hl | he | hl
  · have := cnt_lt_cnt (e := e) hl; rw [hx] at this; omega
  · exact he
  · have := cnt_lt_cnt (e := e) hl; rw [ht] at this; omega

/-- and a token's own count is below its expert's number of tokens. -/
theorem cnt_lt (hf : Fits e) {b : Fin 8} {t : Fin 512} (ht : e t = b) : cnt e b t < 96 := by
  refine lt_of_lt_of_le (Finset.card_lt_card ⟨fun y hy => ?_, fun hs => ?_⟩) (hf b)
  · exact Finset.mem_filter.2 ⟨Finset.mem_univ _, (Finset.mem_filter.1 hy).2.2⟩
  · exact lt_irrefl _ (Finset.mem_filter.1 (hs (Finset.mem_filter.2 ⟨Finset.mem_univ t, ht⟩))).2.1

/-- A 0/1 entry. -/
def ind (p : Prop) [Decidable p] : EReal := if p then 1 else 0

/-- A sum against an indicator that holds at one index is the term there, -/
theorem sum_ind_one {ι : Type} [Fintype ι] [DecidableEq ι] (p : ι → Prop) [DecidablePred p] (f : ι → EReal) (i : ι)
    (h : ∀ x, p x ↔ x = i) : ∑ x, ind (p x) * f x = f i := by
  rw [Finset.sum_eq_single i]
  · rw [ind, if_pos ((h i).2 rfl), one_mul]
  · intro x _ hx
    rw [ind, if_neg fun hp => hx ((h x).1 hp), zero_mul]
  · exact fun hi => absurd (Finset.mem_univ i) hi

/-- and against one that holds nowhere it is zero. -/
theorem sum_ind_none {ι : Type} [Fintype ι] (p : ι → Prop) [DecidablePred p] (f : ι → EReal) (h : ∀ x, ¬p x) :
    ∑ x, ind (p x) * f x = 0 :=
  Finset.sum_eq_zero fun x _ => by rw [ind, if_neg (h x), zero_mul]

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- A sum of products of two indicators counts. -/
theorem sum_ind_mul_ind {ι : Type} [Fintype ι] (p q : ι → Prop) [DecidablePred p] [DecidablePred q] :
    ∑ x, ind (p x) * ind (q x) = (((Finset.univ.filter fun x => p x ∧ q x).card : ℝ) : EReal) := by
  have h : ∀ x, ind (p x) * ind (q x) = (((if p x ∧ q x then 1 else 0 : ℝ)) : EReal) := by
    intro x
    unfold ind
    by_cases hp : p x <;> by_cases hq : q x <;> simp [hp, hq]
  rw [Finset.sum_congr rfl fun x _ => h x, sum_coe, Finset.sum_boole]

section Group

variable {b₀ b₁ : Fin 8} (hb : b₀ ≠ b₁)
include hb

/-! The rows of a token, of the first and of the second expert of a group, -/

theorem hit_row₀ {t : Fin 512} (ht : e t = b₀) (r : Fin 192) : Hit e b₀ b₁ r t ↔ r.val = cnt e b₀ t := by
  constructor
  · rintro (⟨h, -⟩ | ⟨-, h⟩)
    · exact h.symm
    · exact absurd (ht.symm.trans h) hb
  · exact fun h => .inl ⟨h.symm, ht⟩

theorem hit_row₁ {t : Fin 512} (ht : e t = b₁) (r : Fin 192) : Hit e b₀ b₁ r t ↔ r.val = cnt e b₁ t + 96 := by
  constructor
  · rintro (⟨-, h⟩ | ⟨h, -⟩)
    · exact absurd (h.symm.trans ht) hb
    · exact h.symm
  · exact fun h => .inr ⟨h.symm, ht⟩

omit hb in
theorem hit_none {t : Fin 512} (h₀ : e t ≠ b₀) (h₁ : e t ≠ b₁) (r : Fin 192) : ¬Hit e b₀ b₁ r t := by
  rintro (⟨-, h⟩ | ⟨-, h⟩)
  · exact h₀ h
  · exact h₁ h

/-! and the token of a row. -/

theorem hit_col₀ (hf : Fits e) {t : Fin 512} (ht : e t = b₀) {r : Fin 192} (hr : r.val = cnt e b₀ t) (x : Fin 512) :
    Hit e b₀ b₁ r x ↔ x = t := by
  constructor
  · rintro (⟨h, hx⟩ | ⟨h, -⟩)
    · exact eq_of_cnt hx ht (h.trans hr)
    · have := cnt_lt hf ht; omega
  · rintro rfl; exact (hit_row₀ hb ht r).2 hr

theorem hit_col₁ (hf : Fits e) {t : Fin 512} (ht : e t = b₁) {r : Fin 192} (hr : r.val = cnt e b₁ t + 96) (x : Fin 512) :
    Hit e b₀ b₁ r x ↔ x = t := by
  constructor
  · rintro (⟨h, hx⟩ | ⟨h, hx⟩)
    · have := cnt_lt hf hx; omega
    · exact eq_of_cnt hx ht (by omega)
  · rintro rfl; exact (hit_row₁ hb ht r).2 hr

end Group

/-! ## The experts -/

/-- One expert's layer on one token. -/
def ffn (A : Fin 512 → Fin 1024 → EReal) (B : Fin 1024 → Fin 512 → EReal) (v : Fin 512 → EReal) (o : Fin 512) : EReal :=
  ∑ k, max (∑ d, v d * A d k) 0 * B k o

/-- Column `k` of the hidden layer of two experts side by side. -/
def col (s : Fin 2) (k : Fin 1024) : Fin 2048 := ⟨s.val * 1024 + k.val, by omega⟩

theorem sum_cols (g : Fin 2048 → EReal) : ∑ k, g k = ∑ k, g (col 0 k) + ∑ k, g (col 1 k) := by
  rw [show (∑ k, g k) = _ from Fin.sum_univ_add (a := 1024) (b := 1024) g]
  refine congrArg₂ (· + ·) (Finset.sum_congr rfl fun k _ => congrArg g (Fin.ext ?_)) (Finset.sum_congr rfl fun k _ => congrArg g (Fin.ext ?_))
  · simp [col]
  · simp [col, Nat.add_comm]

/-- A sum over the hidden columns of one of the two experts. -/
theorem sum_half (s : Fin 2) (g : Fin 2048 → EReal) :
    (∑ k : Fin 2048, if s.val = k.val / 1024 then g k else 0) = ∑ k, g (col s k) := by
  have hd : ∀ (u : Fin 2) (k : Fin 1024), (col u k).val / 1024 = u.val := fun u k => by show (u.val * 1024 + k.val) / 1024 = _; omega
  rw [sum_cols]
  simp only [hd]
  rcases (by omega : s = 0 ∨ s = 1) with rfl | rfl <;> simp

variable (W1 : Fin 2048 → Fin 512 → EReal) (W2 : Fin 2048 → Fin 512 → EReal)

/-- A row of a group through both experts' hidden columns, those of the other expert masked out. -/
def groupOut (v : Fin 192 → Fin 512 → EReal) (r : Fin 192) (o : Fin 512) : EReal :=
  ∑ k : Fin 2048, if r.val / 96 = k.val / 1024 then max (∑ d, v r d * W1 k d) 0 * W2 k o else 0

/-- Packed, run through a device's two experts and unpacked, a token gets its expert's layer, and a token of neither gets zero. -/
theorem group_eq (hf : Fits e) {b₀ b₁ : Fin 8} (hb : b₀ ≠ b₁) (X : Fin 512 → Fin 512 → EReal) (t o : Fin 512) :
    ∑ r, ind (Hit e b₀ b₁ r t) * groupOut W1 W2 (fun r d => ∑ x, ind (Hit e b₀ b₁ r x) * X x d) r o
      = if e t = b₀ then ffn (fun d k => W1 (col 0 k) d) (fun k => W2 (col 0 k)) (X t) o
        else if e t = b₁ then ffn (fun d k => W1 (col 1 k) d) (fun k => W2 (col 1 k)) (X t) o else 0 := by
  by_cases h₀ : e t = b₀
  · have hc := cnt_lt hf h₀
    rw [if_pos h₀, sum_ind_one _ _ (⟨cnt e b₀ t, by omega⟩ : Fin 192) fun r => (hit_row₀ hb h₀ r).trans (by rw [Fin.ext_iff])]
    unfold groupOut ffn
    simp only [fun d => sum_ind_one _ (fun x => X x d) t (hit_col₀ hb hf h₀ (r := ⟨cnt e b₀ t, by omega⟩) rfl)]
    refine Eq.trans ?_ (sum_half 0 fun k => max (∑ d, X t d * W1 k d) 0 * W2 k o)
    refine Finset.sum_congr rfl fun k _ => ?_
    rw [show cnt e b₀ t / 96 = (0 : Fin 2).val by show _ = 0; omega]
  · rw [if_neg h₀]
    by_cases h₁ : e t = b₁
    · have hc := cnt_lt hf h₁
      rw [if_pos h₁, sum_ind_one _ _ (⟨cnt e b₁ t + 96, by omega⟩ : Fin 192) fun r => (hit_row₁ hb h₁ r).trans (by rw [Fin.ext_iff])]
      unfold groupOut ffn
      simp only [fun d => sum_ind_one _ (fun x => X x d) t (hit_col₁ hb hf h₁ (r := ⟨cnt e b₁ t + 96, by omega⟩) rfl)]
      refine Eq.trans ?_ (sum_half 1 fun k => max (∑ d, X t d * W1 k d) 0 * W2 k o)
      refine Finset.sum_congr rfl fun k _ => ?_
      rw [show (cnt e b₁ t + 96) / 96 = (1 : Fin 2).val by show _ = 1; omega]
    · rw [if_neg h₁]
      exact sum_ind_none _ _ (hit_none h₀ h₁)

end Cert.Dispatch

end
-- ==== Proof.KernelIdealMasks.lean ====
/-
The kernel's integer tables, read one entry at a time: which expert a token goes to, its place, and the 0/1 matrices that
pack and unpack tokens.
-/
module

public import proofs.«01_k».proof.Proof.KernelIdealProto
public import proofs.«01_k».proof.Proof.Dispatch
public import Idealize.ShloMosaic.Lib.Pointwise
public import Idealize.ShloMosaic.Lib.WordCmp

@[expose] public section

noncomputable section

namespace Cert.KernelIdeal.Exchange

open Cert.KernelIdeal Cert.KernelIdeal.Gen
open Idealize.ShloMosaic Cert.Dispatch

variable (m : (ℓ : Loc nD τ sig) → Buf (Elt Ideal) ℓ) (c : Dev nD)

/-- Expert `a` counted from device `c`'s own two experts. -/
def rel (c : Dev nD) (a : Fin 8) : Fin 8 := ⟨(a.val + 8 - 2 * c.val) % 8, Nat.mod_lt _ (by decide)⟩

/-! ## Words -/

/-- The bit the kernel makes for "this token goes to relative expert `b`". -/
theorem rel_word : ∀ (c : Dev nD) (a b : Fin 8),
    IntOp.cmpi .eq (IntOp.remsi ArithUnit.vector (IntOp.addi (BitVec.ofNat 32 a.val)
        (Scalar.subi 8#32 (Scalar.muli 2#32 (Scalar.remsi (Scalar.divsi c.word 1#32) 4#32)))) 8#32) (BitVec.ofNat 32 b.val)
      = BitVec.ofBool (decide (rel c a = b)) := by
  decide +kernel

/-- A bit as a number. -/
theorem ind_word (p : Prop) [Decidable p] :
    FloatOps.sitofp (F := Ideal) FTy.f32 (BitVec.setWidth 32 (BitVec.ofBool (decide p))) = ind p := by
  show (((BitVec.setWidth 32 (BitVec.ofBool (decide p))).toInt : ℝ) : EReal) = _
  unfold ind
  by_cases h : p
  · rw [decide_eq_true h, if_pos h]
    rw [show (BitVec.setWidth 32 (BitVec.ofBool true)).toInt = 1 by decide]; simp
  · rw [decide_eq_false h, if_neg h]
    rw [show (BitVec.setWidth 32 (BitVec.ofBool false)).toInt = 0 by decide]; simp

/-- A small natural number converts back to an integer exactly. -/
theorem count_word (n : ℕ) (h : n < 2 ^ 31) : FloatOps.fptosi (F := Ideal) (φ := .f32) 32 (((n : ℝ)) : EReal) = BitVec.ofNat 32 n := by
  show Ideal.fptosi 32 _ = _
  rw [Ideal.fptosi, Ideal.toIntClamped_coe, if_pos (by positivity), Int.floor_natCast]
  rw [min_eq_right (by norm_num; omega), max_eq_right (by norm_num)]
  exact BitVec.ofInt_natCast 32 n

/-- A place shifted down by an expert's 96 rows. -/
theorem shift_word (n : ℕ) (h : n ≤ 512) (r : Fin 192) :
    IntOp.cmpi .eq (BitVec.ofNat 32 n) (IntOp.subi (BitVec.ofNat 32 r.val) 96#32) = BitVec.ofBool (decide (n + 96 = r.val)) := by
  rw [WordCmp.cmpi_eq_eq]
  congr 1
  rw [decide_eq_decide]
  have hr : r.val < 192 := r.isLt
  show BitVec.ofNat 32 n = BitVec.ofNat 32 r.val - 96#32 ↔ _
  rw [← BitVec.toNat_inj]
  simp only [BitVec.toNat_sub, BitVec.toNat_ofNat]
  omega

/-- The mask word of a row and a token. -/
theorem hit_word (e : Fin 512 → Fin 8) (b₀ b₁ : Fin 8) (r : Fin 192) (t : Fin 512) :
    IntOp.ori (IntOp.andi (IntOp.cmpi .eq (BitVec.ofNat 32 (cnt e b₀ t)) (BitVec.ofNat 32 r.val)) (BitVec.ofBool (decide (e t = b₀))))
        (IntOp.andi (IntOp.cmpi .eq (BitVec.ofNat 32 (cnt e b₁ t)) (IntOp.subi (BitVec.ofNat 32 r.val) 96#32)) (BitVec.ofBool (decide (e t = b₁))))
      = BitVec.ofBool (decide (Hit e b₀ b₁ r t)) := by
  have h₀ := cnt_le e b₀ t
  have h₁ := cnt_le e b₁ t
  rw [shift_word _ h₁, WordCmp.cmpi_eq_ofNat (by omega) (by omega), WordCmp.andi_ofBool, WordCmp.andi_ofBool, WordCmp.ori_ofBool]
  congr 1
  rw [Bool.eq_iff_iff]
  simp only [Bool.or_eq_true, Bool.and_eq_true, decide_eq_true_eq]
  rfl

/-! ## Tables -/

section Tables

variable (a : Fin 512 → Fin 8) (ha : ∀ t, asg m c (ix1 t) = BitVec.ofNat 32 (a t).val)
include ha

/-- The expert of a token counted from its device. -/
abbrev relOf (c : Dev nD) (a : Fin 512 → Fin 8) (t : Fin 512) : Fin 8 := rel c (a t)

theorem b8_at (b : Fin 8) (t : Fin 512) : b8 m c (ix2 b t) = BitVec.ofBool (decide (relOf c a t = b)) := by
  rw [← rel_word, ← ha]
  pointwise [b8, k0_pay5, k0_pay4, arow, k0_pay3]

theorem b8c_at (b : Fin 8) (t : Fin 512) : b8c m c (ix2 t b) = BitVec.ofBool (decide (relOf c a t = b)) := by
  rw [← rel_word, ← ha]
  pointwise [b8c, k0_pay7, acol, k0_pay2, mew]

theorem cs8_at (b : Fin 8) (t : Fin 512) : cs8 (F := Ideal) m c (ix2 b t) = BitVec.ofNat 32 (cnt (relOf c a) b t) := by
  have h : cs8 (F := Ideal) m c (ix2 b t) = FloatOps.fptosi (F := Ideal) (φ := .f32) 32
      (∑ x : Fin 512, FloatOps.sitofp (F := Ideal) FTy.f32 (BitVec.setWidth 32 (b8 m c (ix2 b x)))
        * FloatOps.sitofp (F := Ideal) FTy.f32 (BitVec.setWidth 32 (IntOp.cmpi .slt (BitVec.ofNat 32 x.val) (BitVec.ofNat 32 t.val)))) := by
    pointwise [cs8, k0_pay6, b8]
  have hs : ∀ x : Fin 512, FloatOps.sitofp (F := Ideal) FTy.f32 (BitVec.setWidth 32 (b8 m c (ix2 b x)))
        * FloatOps.sitofp (F := Ideal) FTy.f32 (BitVec.setWidth 32 (IntOp.cmpi .slt (BitVec.ofNat 32 x.val) (BitVec.ofNat 32 t.val)))
      = ind (x < t) * ind (relOf c a x = b) := fun x => by
    rw [b8_at m c a ha, WordCmp.cmpi_slt_ofNat (by have := x.isLt; norm_num; omega) (by have := t.isLt; norm_num; omega), ind_word,
      ind_word, mul_comm]
    rfl
  rw [h, Finset.sum_congr rfl fun x _ => hs x, sum_ind_mul_ind]
  exact count_word _ (lt_of_le_of_lt (cnt_le (relOf c a) b t) (by norm_num))

theorem cs8c_at (b : Fin 8) (t : Fin 512) : cs8c (F := Ideal) m c (ix2 t b) = BitVec.ofNat 32 (cnt (relOf c a) b t) := by
  have h : cs8c (F := Ideal) m c (ix2 t b) = FloatOps.fptosi (F := Ideal) (φ := .f32) 32
      (∑ x : Fin 512, FloatOps.sitofp (F := Ideal) FTy.f32 (BitVec.setWidth 32 (IntOp.cmpi .sgt (BitVec.ofNat 32 t.val) (BitVec.ofNat 32 x.val)))
        * FloatOps.sitofp (F := Ideal) FTy.f32 (BitVec.setWidth 32 (b8c m c (ix2 x b)))) := by
    pointwise [cs8c, k0_pay8, b8c]
  have hs : ∀ x : Fin 512, FloatOps.sitofp (F := Ideal) FTy.f32 (BitVec.setWidth 32 (IntOp.cmpi .sgt (BitVec.ofNat 32 t.val) (BitVec.ofNat 32 x.val)))
        * FloatOps.sitofp (F := Ideal) FTy.f32 (BitVec.setWidth 32 (b8c m c (ix2 x b)))
      = ind (x < t) * ind (relOf c a x = b) := fun x => by
    rw [b8c_at m c a ha, WordCmp.cmpi_sgt_ofNat (by have := t.isLt; norm_num; omega) (by have := x.isLt; norm_num; omega), ind_word,
      ind_word]
    rfl
  rw [h, Finset.sum_congr rfl fun x _ => hs x, sum_ind_mul_ind]
  exact count_word _ (lt_of_le_of_lt (cnt_le (relOf c a) b t) (by norm_num))

/-- One entry of a packing matrix, -/
theorem pack_word (b₀ b₁ : Fin 8) (r : Fin 192) (t : Fin 512) :
    IntOp.ori (IntOp.andi (IntOp.cmpi .eq (cs8 (F := Ideal) m c (ix2 b₀ t)) (BitVec.ofNat 32 r.val)) (b8 m c (ix2 b₀ t)))
        (IntOp.andi (IntOp.cmpi .eq (cs8 (F := Ideal) m c (ix2 b₁ t)) (IntOp.subi (BitVec.ofNat 32 r.val) 96#32)) (b8 m c (ix2 b₁ t)))
      = BitVec.ofBool (decide (Hit (relOf c a) b₀ b₁ r t)) := by
  rw [cs8_at m c a ha, cs8_at m c a ha, b8_at m c a ha, b8_at m c a ha]
  exact hit_word (relOf c a) b₀ b₁ r t

/-- and of an unpacking one. -/
theorem unpack_word (b₀ b₁ : Fin 8) (r : Fin 192) (t : Fin 512) :
    IntOp.ori (IntOp.andi (IntOp.cmpi .eq (cs8c (F := Ideal) m c (ix2 t b₀)) (BitVec.ofNat 32 r.val)) (b8c m c (ix2 t b₀)))
        (IntOp.andi (IntOp.cmpi .eq (cs8c (F := Ideal) m c (ix2 t b₁)) (IntOp.subi (BitVec.ofNat 32 r.val) 96#32)) (b8c m c (ix2 t b₁)))
      = BitVec.ofBool (decide (Hit (relOf c a) b₀ b₁ r t)) := by
  rw [cs8c_at m c a ha, cs8c_at m c a ha, b8c_at m c a ha, b8c_at m c a ha]
  exact hit_word (relOf c a) b₀ b₁ r t

/-- The tokens of relative experts `b₀` and `b₁`, in their rows. -/
def packed (m : (ℓ : Loc nD τ sig) → Buf (Elt Ideal) ℓ) (c : Dev nD) (a : Fin 512 → Fin 8) (b₀ b₁ : Fin 8) (r : Fin 192) (d : Fin 512) : EReal :=
  ∑ x : Fin 512, ind (Hit (relOf c a) b₀ b₁ r x) * (xst m c : Vec Ideal S512x512 .bf16) (ix2 x d)

theorem own_at (r : Fin 192) (d : Fin 512) :
    k0_pay22 (xv m c) (k0_pay18 i46 (b8 m c) (cs8 m c)) (ix2 r d) = packed m c a 0 1 r d := by
  pointwise [k0_pay22, k0_pay18, i46, xv, k0_pay1]
  exact Finset.sum_congr rfl fun x _ => by rw [pack_word m c a ha, ind_word]

theorem xsC0_at (r : Fin 192) (d : Fin 512) : xsC m c 0 (ix3 0 r d) = packed m c a 2 3 r d := by
  have h : xsC m c 0 (ix3 0 r d) = ∑ x : Fin 512, FloatOps.sitofp (F := Ideal) FTy.f32 (BitVec.setWidth 32
      (IntOp.ori (IntOp.andi (IntOp.cmpi .eq (cs8 (F := Ideal) m c (ix2 2 x)) (BitVec.ofNat 32 r.val)) (b8 m c (ix2 2 x)))
        (IntOp.andi (IntOp.cmpi .eq (cs8 (F := Ideal) m c (ix2 3 x)) (IntOp.subi (BitVec.ofNat 32 r.val) 96#32)) (b8 m c (ix2 3 x)))))
      * (xst m c : Vec Ideal S512x512 .bf16) (ix2 x d) := by
    pointwise [xsC, k0_pay11, k0_pay9, xv, k0_pay1]
    rfl
  rw [h]
  exact Finset.sum_congr rfl fun x _ => by rw [pack_word m c a ha, ind_word]

theorem xsC1_at (r : Fin 192) (d : Fin 512) : xsC m c 1 (ix3 0 r d) = packed m c a 4 5 r d := by
  pointwise [xsC, k0_pay14, k0_pay12, i46, xv, k0_pay1]
  exact Finset.sum_congr rfl fun x _ => by rw [pack_word m c a ha, ind_word]

theorem xsC2_at (r : Fin 192) (d : Fin 512) : xsC m c 2 (ix3 0 r d) = packed m c a 6 7 r d := by
  pointwise [xsC, k0_pay17, k0_pay16, i46, xv, k0_pay1]
  exact Finset.sum_congr rfl fun x _ => by rw [pack_word m c a ha, ind_word]

theorem unpack0_at (r : Fin 192) (t : Fin 512) :
    k0_pay21 (F := Ideal) i47 (b8c m c) (cs8c m c) (k0_pay19 i47 (cs8c m c)) (k0_pay20 (b8c m c)) (ix2 t r)
      = ind (Hit (relOf c a) 0 1 r t) := by
  rw [← ind_word, ← unpack_word m c a ha]
  pointwise [k0_pay21, i47, k0_pay19, k0_pay20]

theorem unpack1_at (r : Fin 192) (t : Fin 512) :
    k0_pay10 (F := Ideal) i47 (b8c m c) (cs8c m c) (ix2 t r) = ind (Hit (relOf c a) 2 3 r t) := by
  rw [← ind_word, ← unpack_word m c a ha]
  pointwise [k0_pay10, i47]

theorem unpack2_at (r : Fin 192) (t : Fin 512) :
    k0_pay13 (F := Ideal) i47 (b8c m c) (cs8c m c) (ix2 t r) = ind (Hit (relOf c a) 4 5 r t) := by
  rw [← ind_word, ← unpack_word m c a ha]
  pointwise [k0_pay13, i47]

theorem unpack3_at (r : Fin 192) (t : Fin 512) :
    k0_pay15 (F := Ideal) i47 (b8c m c) (cs8c m c) (ix2 t r) = ind (Hit (relOf c a) 6 7 r t) := by
  rw [← ind_word, ← unpack_word m c a ha]
  pointwise [k0_pay15, i47]

end Tables

/-! ## The experts of a device -/

/-- The mask that keeps, of the two experts' hidden columns, those of the expert of the row's half. -/
theorem hm_at (r : Fin 192) (k : Fin 2048) : hm (ix2 r k) = BitVec.ofBool (decide (r.val / 96 = k.val / 1024)) := by
  have hr : ∀ r : Fin 192, Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 96#32 0#32))
              (Scalar.extui (Scalar.cmpi CmpIPredicate.slt 96#32 0#32))))
          (IntOp.cmpi CmpIPredicate.ne (IntOp.remsi ArithUnit.vector (BitVec.ofNat 32 r.val) 96#32) 0#32))
        (IntOp.subi (IntOp.divsi ArithUnit.vector (BitVec.ofNat 32 r.val) 96#32) 1#32)
        (IntOp.divsi ArithUnit.vector (BitVec.ofNat 32 r.val) 96#32) = BitVec.ofNat 32 (r.val / 96) := by decide +kernel
  have hk : ∀ k : Fin 2048, Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 1024#32 0#32))
              (Scalar.extui (Scalar.cmpi CmpIPredicate.slt 1024#32 0#32))))
          (IntOp.cmpi CmpIPredicate.ne (IntOp.remsi ArithUnit.vector (BitVec.ofNat 32 k.val) 1024#32) 0#32))
        (IntOp.subi (IntOp.divsi ArithUnit.vector (BitVec.ofNat 32 k.val) 1024#32) 1#32)
        (IntOp.divsi ArithUnit.vector (BitVec.ofNat 32 k.val) 1024#32) = BitVec.ofNat 32 (k.val / 1024) := by decide +kernel
  have h := WordCmp.cmpi_eq_ofNat (w := 32) (a := r.val / 96) (b := k.val / 1024) (by omega) (by omega)
  rw [← h, ← hr r, ← hk k]
  pointwise [hm, k0_pay28, k0_pay27, k0_pay26, k0_pay25]

/-- Expert `j`'s first weight, at one entry. -/
theorem w1at_at (j : Fin 2) (d : Fin 512) (k : Fin 1024) : w1at m c j (ix3 0 d k) = (w1st m c : Vec Ideal S2x512x1024 .bf16) (ix3 j d k) := by
  show (w1st m c : Vec Ideal S2x512x1024 .bf16) _ = _
  congr 1
  funext b; apply Fin.ext
  show (![j.val, 0, 0] : Fin 3 → ℕ) b + 1 * ((ix3 0 d k : S1x512x1024.Idx) b).val = ((ix3 j d k : S2x512x1024.Idx) b).val
  fin_cases b <;> simp

theorem w1c_at (s : Fin 2) (d : Fin 512) (k : Fin 1024) : w1c m c (ix2 d (col s k)) = (w1st m c : Vec Ideal S2x512x1024 .bf16) (ix3 s d k) := by
  rw [← w1at_at]
  have h : w1c m c (ix2 d (col s k)) = if h : (col s k).val < 1024 then w1at m c 0 (ix3 0 d ⟨(col s k).val, h⟩)
      else w1at m c 1 (ix3 0 d ⟨(col s k).val - 1024, by have := (col s k).isLt; omega⟩) := by
    pointwise [w1c, k0_pay23]
  rw [h]
  have hk := k.isLt
  rcases (by omega : s = 0 ∨ s = 1) with rfl | rfl
  · have hc : (col 0 k).val = k.val := by simp [col]
    rw [dif_pos (by omega)]
    congr 2; exact Fin.ext hc
  · have hc : (col 1 k).val = 1024 + k.val := by simp [col]
    rw [dif_neg (by omega)]
    congr 2; apply Fin.ext; show (col 1 k).val - 1024 = k.val; omega

theorem w2c_at (s : Fin 2) (k : Fin 1024) (d : Fin 512) : w2c m c (ix2 (col s k) d) = (w2st m c : Vec Ideal S2x1024x512 .bf16) (ix3 s k d) := by
  have hk := k.isLt
  have h : w2c m c (ix2 (col s k) d) = (w2st m c : Vec Ideal S2x1024x512 .bf16)
      (ix3 ⟨(col s k).val / 1024, by have := (col s k).isLt; omega⟩ ⟨(col s k).val % 1024, Nat.mod_lt _ (by decide)⟩ d) := by
    pointwise [w2c, k0_pay24]
  rw [h]
  congr 2
  · apply Fin.ext; show (s.val * 1024 + k.val) / 1024 = s.val; omega
  · apply Fin.ext; show (s.val * 1024 + k.val) % 1024 = k.val; omega

end Cert.KernelIdeal.Exchange

end
-- ==== Proof.KernelIdealValue.lean ====
/-
The kernel's result, one entry at a time: each token through the layer of its expert, on the device that has the expert.
-/
module

public import proofs.«01_k».proof.Proof.KernelIdealMasks

@[expose] public section

noncomputable section

namespace Cert.KernelIdeal.Exchange

open Cert.KernelIdeal Cert.KernelIdeal.Gen
open Idealize.ShloMosaic Cert.Dispatch

variable (m : (ℓ : Loc nD τ sig) → Buf (Elt Ideal) ℓ) (c : Dev nD)

/-- The device's first weights, a row per hidden column of either expert, -/
def W1 (c : Dev nD) (k : Fin 2048) (d : Fin 512) : EReal := w1c m c (ix2 d k)
/-- and its second. -/
def W2 (c : Dev nD) (k : Fin 2048) (o : Fin 512) : EReal := w2c m c (ix2 k o)

/-- The layer of expert `s` of device `c` on a row. -/
def layer (c : Dev nD) (s : Fin 2) (v : Fin 512 → EReal) (o : Fin 512) : EReal :=
  ffn (fun d k => (w1st m c : Vec Ideal S2x512x1024 .bf16) (ix3 s d k)) (fun k o => (w2st m c : Vec Ideal S2x1024x512 .bf16) (ix3 s k o)) v o

theorem layer_eq (s : Fin 2) (v : Fin 512 → EReal) (o : Fin 512) :
    ffn (fun d k => W1 m c (col s k) d) (fun k => W2 m c (col s k)) v o = layer m c s v o := by
  unfold layer ffn W1 W2
  simp only [w1c_at, w2c_at]

/-- A masked term is a conditional one. -/
theorem select_hm (r : Fin 192) (k : Fin 2048) (x : EReal) :
    Scalar.select (hm (ix2 r k)) x 0 = if r.val / 96 = k.val / 1024 then x else 0 := by
  rw [hm_at]
  by_cases h : r.val / 96 = k.val / 1024
  · rw [if_pos h, decide_eq_true h]; rfl
  · rw [if_neg h, decide_eq_false h]; rfl

section Groups

variable (a : Fin 512 → Fin 8)

theorem yown_at (ha : ∀ t, asg m c (ix1 t) = BitVec.ofNat 32 (a t).val) (r : Fin 192) (o : Fin 512) :
    yown m c (ix2 r o) = groupOut (W1 m c) (W2 m c) (packed m c a 0 1) r o := by
  have h : yown m c (ix2 r o) = ∑ k : Fin 2048, Scalar.select (hm (ix2 r k))
      (max (∑ d : Fin 512, (k0_pay22 (xv m c) (k0_pay18 i46 (b8 m c) (cs8 m c)) : FVec Ideal S192x512 .bf16) (ix2 r d) * W1 m c k d) 0 * W2 m c k o) 0 := by
    pointwise [yown, k0_pay29, hm, W1, W2]
  rw [h]
  exact Finset.sum_congr rfl fun k _ => by rw [select_hm]; simp only [own_at m c a ha]

theorem psC0_at (ha : ∀ t, asg m (up 0 c) (ix1 t) = BitVec.ofNat 32 (a t).val) (r : Fin 192) (o : Fin 512) :
    psC m c 0 (ix3 0 r o) = groupOut (W1 m c) (W2 m c) (packed m (up 0 c) a 6 7) r o := by
  have h : psC m c 0 (ix3 0 r o) = ∑ k : Fin 2048, Scalar.select (hm (ix2 r k))
      (max (∑ d : Fin 512, (xsC m (up 0 c) 2 : FVec Ideal S1x192x512 .bf16) (ix3 0 r d) * W1 m c k d) 0 * W2 m c k o) 0 := by
    pointwise [psC, k0_pay30, W1, W2]
  rw [h]
  exact Finset.sum_congr rfl fun k _ => by rw [select_hm]; simp only [xsC2_at m _ a ha]

theorem psC1_at (ha : ∀ t, asg m (up 1 c) (ix1 t) = BitVec.ofNat 32 (a t).val) (r : Fin 192) (o : Fin 512) :
    psC m c 1 (ix3 0 r o) = groupOut (W1 m c) (W2 m c) (packed m (up 1 c) a 4 5) r o := by
  have h : psC m c 1 (ix3 0 r o) = ∑ k : Fin 2048, Scalar.select (hm (ix2 r k))
      (max (∑ d : Fin 512, (xsC m (up 1 c) 1 : FVec Ideal S1x192x512 .bf16) (ix3 0 r d) * W1 m c k d) 0 * W2 m c k o) 0 := by
    pointwise [psC, k0_pay31, W1, W2]
  rw [h]
  exact Finset.sum_congr rfl fun k _ => by rw [select_hm]; simp only [xsC1_at m _ a ha]

theorem psC2_at (ha : ∀ t, asg m (up 2 c) (ix1 t) = BitVec.ofNat 32 (a t).val) (r : Fin 192) (o : Fin 512) :
    psC m c 2 (ix3 0 r o) = groupOut (W1 m c) (W2 m c) (packed m (up 2 c) a 2 3) r o := by
  have h : psC m c 2 (ix3 0 r o) = ∑ k : Fin 2048, Scalar.select (hm (ix2 r k))
      (max (∑ d : Fin 512, (xsC m (up 2 c) 0 : FVec Ideal S1x192x512 .bf16) (ix3 0 r d) * W1 m c k d) 0 * W2 m c k o) 0 := by
    pointwise [psC, k0_pay32, W1, W2]
  rw [h]
  exact Finset.sum_congr rfl fun k _ => by rw [select_hm]; simp only [xsC0_at m _ a ha]

end Groups

/-! ## Where an expert is -/

/-- The device that has expert `g`, -/
def owner (g : Fin 8) : Dev nD := ⟨g.val / 2, by have := g.isLt; show g.val / 2 < 4; omega⟩
/-- and which of its two it is. -/
def sub (g : Fin 8) : Fin 2 := ⟨g.val % 2, Nat.mod_lt _ (by decide)⟩

theorem rel_cases : ∀ (c : Dev nD) (g : Fin 8),
    (rel c g = 0 ∧ owner g = c ∧ sub g = 0) ∨ (rel c g = 1 ∧ owner g = c ∧ sub g = 1)
    ∨ (rel c g = 2 ∧ owner g = up 0 c ∧ sub g = 0) ∨ (rel c g = 3 ∧ owner g = up 0 c ∧ sub g = 1)
    ∨ (rel c g = 4 ∧ owner g = up 1 c ∧ sub g = 0) ∨ (rel c g = 5 ∧ owner g = up 1 c ∧ sub g = 1)
    ∨ (rel c g = 6 ∧ owner g = up 2 c ∧ sub g = 0) ∨ (rel c g = 7 ∧ owner g = up 2 c ∧ sub g = 1) := by
  decide +kernel

theorem up_back : ∀ c : Dev nD, up 2 (up 0 c) = c ∧ up 1 (up 1 c) = c ∧ up 0 (up 2 c) = c := by decide

theorem rel_onto : ∀ (c : Dev nD) (b : Fin 8), ∃ g, ∀ g', rel c g' = b ↔ g' = g := by decide +kernel

/-- Counting experts from a device only renames them. -/
theorem fits_rel (a : Fin 512 → Fin 8) (h : Fits a) : Fits (relOf c a) := by
  intro b
  obtain ⟨g, hg⟩ := rel_onto c b
  refine le_trans (le_of_eq ?_) (h g)
  congr 1
  ext x
  simp only [Finset.mem_filter, Finset.mem_univ, true_and]
  exact hg (a x)

/-- One entry of the kernel's result. -/
theorem outAt_at (a : Fin 512 → Fin 8) (ha : ∀ t, asg m c (ix1 t) = BitVec.ofNat 32 (a t).val) (hf : Fits a) (t o : Fin 512) :
    outAt m c (ix2 t o) = layer m (owner (a t)) (sub (a t)) (fun d => (xst m c : Vec Ideal S512x512 .bf16) (ix2 t d)) o := by
  have hf' := fits_rel c a hf
  have h : outAt m c (ix2 t o)
      = ∑ r : Fin 192, k0_pay21 (F := Ideal) i47 (b8c m c) (cs8c m c) (k0_pay19 i47 (cs8c m c)) (k0_pay20 (b8c m c)) (ix2 t r) * yown m c (ix2 r o)
        + ∑ r : Fin 192, k0_pay10 (F := Ideal) i47 (b8c m c) (cs8c m c) (ix2 t r) * psC m (up 0 c) 2 (ix3 0 r o)
        + ∑ r : Fin 192, k0_pay13 (F := Ideal) i47 (b8c m c) (cs8c m c) (ix2 t r) * psC m (up 1 c) 1 (ix3 0 r o)
        + ∑ r : Fin 192, k0_pay15 (F := Ideal) i47 (b8c m c) (cs8c m c) (ix2 t r) * psC m (up 2 c) 0 (ix3 0 r o) := by
    pointwise [outAt, k0_pay34, k0_pay33]
  obtain ⟨h₀, h₁, h₂⟩ := up_back c
  have e₀ := group_eq (W1 m c) (W2 m c) hf' (b₀ := 0) (b₁ := 1) (by decide) (fun x d => (xst m c : Vec Ideal S512x512 .bf16) (ix2 x d)) t o
  have e₁ := group_eq (W1 m (up 0 c)) (W2 m (up 0 c)) hf' (b₀ := 2) (b₁ := 3) (by decide) (fun x d => (xst m c : Vec Ideal S512x512 .bf16) (ix2 x d)) t o
  have e₂ := group_eq (W1 m (up 1 c)) (W2 m (up 1 c)) hf' (b₀ := 4) (b₁ := 5) (by decide) (fun x d => (xst m c : Vec Ideal S512x512 .bf16) (ix2 x d)) t o
  have e₃ := group_eq (W1 m (up 2 c)) (W2 m (up 2 c)) hf' (b₀ := 6) (b₁ := 7) (by decide) (fun x d => (xst m c : Vec Ideal S512x512 .bf16) (ix2 x d)) t o
  rw [layer_eq, layer_eq] at e₀ e₁ e₂ e₃
  rw [h]
  simp only [unpack0_at m c a ha, unpack1_at m c a ha, unpack2_at m c a ha, unpack3_at m c a ha, yown_at m c a ha,
    psC2_at m (up 0 c) a (by rw [h₀]; exact ha), psC1_at m (up 1 c) a (by rw [h₁]; exact ha), psC0_at m (up 2 c) a (by rw [h₂]; exact ha),
    h₀, h₁, h₂]
  refine (congrArg₂ (· + ·) (congrArg₂ (· + ·) (congrArg₂ (· + ·) e₀ e₁) e₂) e₃).trans ?_
  have hc := rel_cases c (a t)
  change (relOf c a t = 0 ∧ _) ∨ (relOf c a t = 1 ∧ _) ∨ (relOf c a t = 2 ∧ _) ∨ (relOf c a t = 3 ∧ _) ∨ (relOf c a t = 4 ∧ _)
    ∨ (relOf c a t = 5 ∧ _) ∨ (relOf c a t = 6 ∧ _) ∨ (relOf c a t = 7 ∧ _) at hc
  generalize relOf c a t = g at hc ⊢
  rcases hc with ⟨rfl, ho, hs⟩ | ⟨rfl, ho, hs⟩ | ⟨rfl, ho, hs⟩ | ⟨rfl, ho, hs⟩ | ⟨rfl, ho, hs⟩ | ⟨rfl, ho, hs⟩ | ⟨rfl, ho, hs⟩ | ⟨rfl, ho, hs⟩ <;>
    (rw [ho, hs]; simp)

end Cert.KernelIdeal.Exchange

end
-- ==== Proof.ReferenceIdealValue.lean ====
/-
The reference's result, one entry at a time: each token through the layer of its expert.
-/
module

public import proofs.«01_k».proof.Proof.Gen.ReferenceIdeal.Run
public import proofs.«01_k».proof.Proof.Dispatch
public import Idealize.ShloMosaic.Lib.Pointwise

@[expose] public section

noncomputable section

namespace Cert.ReferenceIdeal.Value

open Cert.ReferenceIdeal Cert.ReferenceIdeal.Gen
open Idealize.ShloMosaic Idealize.ShloMosaic.TcCoe Cert.Dispatch

variable (x : Vec Ideal S2048x512 .bf16) (w1 : Vec Ideal S8x512x1024 .bf16) (w2 : Vec Ideal S8x1024x512 .bf16)

/-- The layer of expert `g` on token `t`. -/
def expert (g : Fin 8) (t : Fin 2048) (o : Fin 512) : EReal :=
  ffn (fun d k => w1 (ix3 g d k)) (fun k o => w2 (ix3 g k o)) (fun d => x (ix2 t d)) o

/-- The chain of eight selections takes the term of the token's expert. -/
theorem choose (f : Fin 8 → EReal) : ∀ g : Fin 8,
    Scalar.select (IntOp.cmpi .eq (BitVec.ofNat 32 g.val) 7#32) (f 7) (Scalar.select (IntOp.cmpi .eq (BitVec.ofNat 32 g.val) 6#32) (f 6)
      (Scalar.select (IntOp.cmpi .eq (BitVec.ofNat 32 g.val) 5#32) (f 5) (Scalar.select (IntOp.cmpi .eq (BitVec.ofNat 32 g.val) 4#32) (f 4)
      (Scalar.select (IntOp.cmpi .eq (BitVec.ofNat 32 g.val) 3#32) (f 3) (Scalar.select (IntOp.cmpi .eq (BitVec.ofNat 32 g.val) 2#32) (f 2)
      (Scalar.select (IntOp.cmpi .eq (BitVec.ofNat 32 g.val) 1#32) (f 1) (Scalar.select (IntOp.cmpi .eq (BitVec.ofNat 32 g.val) 0#32) (f 0) 0)))))))
      = f g := by
  intro g
  fin_cases g <;> rfl

/-- One entry of the reference's result. -/
theorem result_at (m : (ℓ : Loc nD τ sig) → Buf (Elt Ideal) ℓ) (c : Dev nD) (t : Fin 2048) (o : Fin 512) (g : Fin 8)
    (hg : (m ((c.tc : Thread nD τ).loc main_arg1) : IVec S2048 32) (ix1 t) = BitVec.ofNat 32 g.val) :
    (res_main_v113 m c : Vec Ideal S2048x512 .f32) (ix2 t o)
      = expert (m ((c.tc : Thread nD τ).loc main_arg0)) (m ((c.tc : Thread nD τ).loc main_arg2)) (m ((c.tc : Thread nD τ).loc main_arg3)) g t o := by
  refine Eq.trans ?_ (choose (fun g => expert (m ((c.tc : Thread nD τ).loc main_arg0)) (m ((c.tc : Thread nD τ).loc main_arg2))
    (m ((c.tc : Thread nD τ).loc main_arg3)) g t o) g)
  rw [← hg]
  unfold res_main_v113 expert ffn
  pointwise

end Cert.ReferenceIdeal.Value

end
-- ==== Proof.Fit.lean ====
/-
What the precondition says of a device's assignments: each is one of the eight experts, and none has more than 96 tokens.
-/
module

public import proofs.«01_k».proof.Pre_fits_KernelIdeal
public import proofs.«01_k».proof.Proof.Gen.Pre_fits_KernelIdeal
public import proofs.«01_k».proof.Proof.Dispatch
public import Idealize.ShloMosaic.Lib.Pointwise
public import Idealize.ShloMosaic.Lib.WordCmp
public import Idealize.ShloMosaic.Lib.ReduceAll
public import Idealize.ShloMosaic.Lib.IndicatorCount
public import Idealize.ShloMosaic.PureOps.Ideal

@[expose] public section

noncomputable section

namespace Cert.Fit

open Cert.Pre_fits_KernelIdeal Cert.Pre_fits_KernelIdeal.Facts
open Idealize.ShloMosaic Cert.Dispatch

variable [Cert.Pre_fits_KernelIdeal.Facts]

instance : Subsingleton S_.Idx := ⟨fun _ _ => funext fun a => a.elim0⟩

theorem bit_and : ∀ x y : BitVec 1, IntOp.andi x y = 1#1 ↔ x = 1#1 ∧ y = 1#1 := by decide

theorem and_at (x y : IVec S_ 1) (i : S_.Idx) : andi x y i = 1#1 ↔ x i = 1#1 ∧ y i = 1#1 := bit_and _ _

variable (A : IVec S512 32)

/-- The bit that says whether expert `b` has at most 96 tokens. -/
abbrev few (b : BitVec 32) : IVec S_ 1 :=
  cmpi .sle (Host.reduce IntOp.addi (extui 32 (cmpi .eq A (broadcastInDim S512 ![] bcast_S_S512 (constantI S_ 32 b))) natLt_1_32)
    (constantI S_ 32 0#32) reducesTo_S512_S_d0 h_S_) (constantI S_ 32 96#32)

/-- That bit, read back. -/
theorem card_le (b : BitVec 32) (i : S_.Idx) (h : few A b i = 1#1) :
    (Finset.univ.filter fun t : Fin 512 => A (ix1 t) = b).card ≤ 96 := by
  have hc : (Finset.univ.filter fun t : Fin 512 => A (ix1 t) = b).card ≤ 512 := (Finset.card_le_univ _).trans (by simp)
  have hr : Host.reduce IntOp.addi (extui 32 (cmpi .eq A (broadcastInDim S512 ![] bcast_S_S512 (constantI S_ 32 b))) natLt_1_32)
      (constantI S_ 32 0#32) reducesTo_S512_S_d0 h_S_ i = BitVec.ofNat 32 (Finset.univ.filter fun t : Fin 512 => A (ix1 t) = b).card := by
    rw [Host.reduce_eq_fold]
    refine (IndicatorCount.fold_addi_setWidth_eq_card
      (fun k : S512.Idx => cmpi .eq A (broadcastInDim S512 ![] bcast_S_S512 (constantI S_ 32 b)) k) _).trans ?_
    congr 1
    refine Finset.card_nbij' (fun k : S512.Idx => (k 0 : Fin 512)) (fun t => ix1 t) ?_ ?_ ?_ ?_
    · intro k hk
      have hk := (Finset.mem_filter.1 hk).2
      rw [show cmpi .eq A (broadcastInDim S512 ![] bcast_S_S512 (constantI S_ 32 b)) k = IntOp.cmpi .eq (A k) b from rfl,
        WordCmp.cmpi_eq_eq, WordCmp.ofBool_decide_eq_one_iff] at hk
      refine Finset.mem_filter.2 ⟨Finset.mem_univ _, ?_⟩
      rw [← hk, ← eq_ix1 k]
    · intro t ht
      have ht := (Finset.mem_filter.1 ht).2
      refine Finset.mem_filter.2 ⟨Finset.mem_filter.2 ⟨Finset.mem_univ _, Subsingleton.elim _ _⟩, ?_⟩
      rw [show cmpi .eq A (broadcastInDim S512 ![] bcast_S_S512 (constantI S_ 32 b)) (ix1 t) = IntOp.cmpi .eq (A (ix1 t)) b from rfl,
        WordCmp.cmpi_eq_eq, WordCmp.ofBool_decide_eq_one_iff]
      exact ht
    · intro k _; exact (eq_ix1 k).symm
    · intro t _; rfl
  have h' : IntOp.cmpi .sle (Host.reduce IntOp.addi (extui 32 (cmpi .eq A (broadcastInDim S512 ![] bcast_S_S512 (constantI S_ 32 b))) natLt_1_32)
      (constantI S_ 32 0#32) reducesTo_S512_S_d0 h_S_ i) (BitVec.ofNat 32 96) = 1#1 := h
  rw [hr, WordCmp.cmpi_sle_ofNat (by norm_num; omega) (by norm_num), WordCmp.ofBool_decide_eq_one_iff] at h'
  exact h'

/-- The precondition of one device, as naturals. -/
theorem of_fits (x : FVec Ideal S512x512 .bf16) (w1 : FVec Ideal S2x512x1024 .bf16) (w2 : FVec Ideal S2x1024x512 .bf16)
    (h : fn (F := Ideal) x A w1 w2 = fun _ => 1#1) :
    ∃ a : Fin 512 → Fin 8, (∀ t, A (ix1 t) = BitVec.ofNat 32 (a t).val) ∧ Fits a := by
  have h0 := congrFun h ix0
  simp only [fn, fn_part1, fn_part2, fn_part3, and_at] at h0
  obtain ⟨⟨⟨⟨⟨⟨⟨⟨hr, c0⟩, c1⟩, c2⟩, c3⟩, c4⟩, c5⟩, c6⟩, c7⟩ := h0
  have hlt : ∀ t : Fin 512, (A (ix1 t)).toNat < 8 := fun t => by
    have hb : IntOp.andi (IntOp.cmpi .sge (A (ix1 t)) 0#32) (IntOp.cmpi .slt (A (ix1 t)) (BitVec.ofNat 32 8)) = 1#1 :=
      Host.reduce_andi_all _ _ _ _ _ hr (ix1 t)
    rw [WordCmp.andi_sge_zero_slt_ofNat (by norm_num), WordCmp.ofBool_decide_eq_one_iff] at hb
    exact hb
  have ha : ∀ t : Fin 512, A (ix1 t) = BitVec.ofNat 32 (A (ix1 t)).toNat := fun t => by simp
  have hle : ∀ b : Fin 8, (Finset.univ.filter fun t : Fin 512 => A (ix1 t) = BitVec.ofNat 32 b.val).card ≤ 96 := by
    intro b
    fin_cases b
    · exact card_le A _ _ c0
    · exact card_le A _ _ c1
    · exact card_le A _ _ c2
    · exact card_le A _ _ c3
    · exact card_le A _ _ c4
    · exact card_le A _ _ c5
    · exact card_le A _ _ c6
    · exact card_le A _ _ c7
  refine ⟨fun t => ⟨(A (ix1 t)).toNat, hlt t⟩, ha, fun b => le_trans (Finset.card_le_card fun t ht => ?_) (hle b)⟩
  have hb := (Finset.mem_filter.1 ht).2
  refine Finset.mem_filter.2 ⟨Finset.mem_univ _, (ha t).trans ?_⟩
  rw [← hb]

end Cert.Fit

end
-- ==== Proof.Agree.lean ====
/-
The two results agree: device `c`'s block of the kernel's result is block `c` of the reference's.
-/
module

public import proofs.«01_k».proof.Defs
public import proofs.«01_k».proof.Proof.KernelIdealRun
public import proofs.«01_k».proof.Proof.KernelIdealValue
public import proofs.«01_k».proof.Proof.ReferenceIdealValue
public import proofs.«01_k».proof.Proof.Fit
public import Idealize.ShloMosaic.Lib.Layout

@[expose] public section

noncomputable section

namespace Cert.Agree

open Idealize.ShloMosaic Idealize.ShloMosaic.TcCoe Idealize.SL.Sem Cert.Dispatch
open Cert.KernelIdeal.Exchange

/-! ## Where an entry of a block is in the whole array -/

/-- Row `t` of block `c`. -/
def row (c : Fin 4) (t : Fin 512) : Fin 2048 := ⟨c.val * 512 + t.val, by omega⟩

theorem tokens_at {α : Type} (v : (⟨2, ![2048, 512]⟩ : Shape).Idx → α) (h : Layout.Tiles ⟨2, ![512, 512]⟩ ⟨2, ![2048, 512]⟩ 0 4) (c : Fin 4) (t d : Fin 512) :
    Layout.block ⟨2, ![512, 512]⟩ ⟨2, ![2048, 512]⟩ 0 4 c v h (ix2 t d) = v (ix2 (row c t) d) := by
  rw [Layout.block_apply]
  congr 1; funext b; apply Fin.ext
  rw [Layout.Tiles.idx_val]
  fin_cases b <;> rfl

theorem assign_at {α : Type} (v : (⟨1, ![2048]⟩ : Shape).Idx → α) (h : Layout.Tiles ⟨1, ![512]⟩ ⟨1, ![2048]⟩ 0 4) (c : Fin 4) (t : Fin 512) :
    Layout.block ⟨1, ![512]⟩ ⟨1, ![2048]⟩ 0 4 c v h (ix1 t) = v (ix1 (row c t)) := by
  rw [Layout.block_apply]
  congr 1; funext b; apply Fin.ext
  rw [Layout.Tiles.idx_val]
  fin_cases b; rfl

theorem owner_sub : ∀ g : Fin 8, (owner g).val * 2 + (sub g).val = g.val := by decide

/-- An expert's entry of its owner's block of weights. -/
theorem expert_at {α : Type} (p q : ℕ) (v : (⟨3, ![8, p, q]⟩ : Shape).Idx → α) (h : Layout.Tiles ⟨3, ![2, p, q]⟩ ⟨3, ![8, p, q]⟩ 0 4)
    (g : Fin 8) (i : Fin p) (j : Fin q) :
    Layout.block ⟨3, ![2, p, q]⟩ ⟨3, ![8, p, q]⟩ 0 4 (owner g) v h (ix3 (sub g) i j) = v (ix3 g i j) := by
  rw [Layout.block_apply]
  congr 1; funext b; apply Fin.ext
  rw [Layout.Tiles.idx_val]
  fin_cases b
  · exact owner_sub g
  · rfl
  · rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's array. -/
abbrev arg (b : Ref Cert.ReferenceIdeal.sig .tc) : Buf (Elt Ideal) (((0 : Dev Cert.ReferenceIdeal.nD).tc : Thread Cert.ReferenceIdeal.nD Cert.ReferenceIdeal.τ).loc b) :=
  m' (((0 : Dev Cert.ReferenceIdeal.nD).tc : Thread Cert.ReferenceIdeal.nD Cert.ReferenceIdeal.τ).loc b)

theorem blocks_eq [Cert.Pre_fits_KernelIdeal.Facts] (hpre : Cert.Pre_KernelIdeal_fits_KernelIdeal m)
    (hin : ∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (arg m' Cert.ReferenceIdeal.main_arg0)
      ∧ m ((c.tc : Thread Cert.KernelIdeal.nD Cert.KernelIdeal.τ).loc Cert.KernelIdeal.main_arg1) = Layout.block ⟨1, ![512]⟩ ⟨1, ![2048]⟩ 0 4 c (arg m' Cert.ReferenceIdeal.main_arg1)
      ∧ m ((c.tc : Thread Cert.KernelIdeal.nD Cert.KernelIdeal.τ).loc Cert.KernelIdeal.main_arg2) = Layout.block ⟨3, ![2, 512, 1024]⟩ ⟨3, ![8, 512, 1024]⟩ 0 4 c (arg m' Cert.ReferenceIdeal.main_arg2)
      ∧ m ((c.tc : Thread Cert.KernelIdeal.nD Cert.KernelIdeal.τ).loc Cert.KernelIdeal.main_arg3) = Layout.block ⟨3, ![2, 1024, 512]⟩ ⟨3, ![8, 1024, 512]⟩ 0 4 c (arg m' Cert.ReferenceIdeal.main_arg3))
    (c : Dev Cert.KernelIdeal.nD) :
    outAt m c = Layout.block ⟨2, ![512, 512]⟩ ⟨2, ![2048, 512]⟩ 0 4 c (Cert.ReferenceIdeal.Value.res_main_v113 m' 0) := by
  obtain ⟨a, ha, hf⟩ := Cert.Fit.of_fits _ _ _ _ (hpre c)
  have ha' : ∀ t, asg m c (ix1 t) = BitVec.ofNat 32 (a t).val := fun t => by rw [asg_eq]; exact ha t
  funext i
  rw [eq_ix2 i]
  generalize (i 0 : Fin 512) = t
  generalize (i 1 : Fin 512) = o
  have hg : (arg m' Cert.ReferenceIdeal.main_arg1 : IVec Cert.ReferenceIdeal.S2048 32) (ix1 (row c t)) = BitVec.ofNat 32 (a t).val := by
    rw [← ha t, (hin c).2.1]
    exact (assign_at _ _ c t).symm
  refine (outAt_at m c a ha' hf t o).trans (Eq.trans ?_ (tokens_at _ _ c t o).symm)
  refine Eq.trans ?_ (Cert.ReferenceIdeal.Value.result_at m' 0 (row c t) o (a t) hg).symm
  unfold layer Cert.ReferenceIdeal.Value.expert
  have hx : ∀ d : Fin 512, (xst m c : Vec Ideal Cert.KernelIdeal.S512x512 .bf16) (ix2 t d)
      = (arg m' Cert.ReferenceIdeal.main_arg0 : Vec Ideal Cert.ReferenceIdeal.S2048x512 .bf16) (ix2 (row c t) d) := fun d => by
    rw [xst_eq, (hin c).1]; exact tokens_at _ _ c t d
  have h1 : ∀ (d : Fin 512) (k : Fin 1024), (w1st m (owner (a t)) : Vec Ideal Cert.KernelIdeal.S2x512x1024 .bf16) (ix3 (sub (a t)) d k)
      = (arg m' Cert.ReferenceIdeal.main_arg2 : Vec Ideal Cert.ReferenceIdeal.S8x512x1024 .bf16) (ix3 (a t) d k) := fun d k => by
    rw [w1st_eq, (hin (owner (a t))).2.2.1]; exact expert_at 512 1024 _ _ (a t) d k
  have h2 : ∀ (k : Fin 1024) (o : Fin 512), (w2st m (owner (a t)) : Vec Ideal Cert.KernelIdeal.S2x1024x512 .bf16) (ix3 (sub (a t)) k o)
      = (arg m' Cert.ReferenceIdeal.main_arg3 : Vec Ideal Cert.ReferenceIdeal.S8x1024x512 .bf16) (ix3 (a t) k o) := fun k o => by
    rw [w2st_eq, (hin (owner (a t))).2.2.2]; exact expert_at 1024 512 _ _ (a t) k o
  simp only [hx, h1, h2]

end Cert.Agree

end
-- ==== Proof.lean ====
/-
The claim: the kernel and its idealized form run to the end with their arguments unchanged and every counter at zero; so does
the reference; and where the assignments fit, the kernel's blocks are the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.KernelRun
public import proofs.«01_k».proof.Proof.KernelIdealRun
public import proofs.«01_k».proof.Proof.Agree
public import Idealize.ShloMosaic.Adequacy
public import Idealize.ShloMosaic.Init

@[expose] public section

noncomputable section

namespace Cert.Proof

open Idealize.ShloMosaic Idealize.SL.Sem

/-- The kernel's frame: its run with the values dropped. -/
theorem frame_kernel : Cert.quiescent_Kernel := fun m ρ _ =>
  (θ_run Cert.Kernel.defs _ _).mono (fun _ h => ⟨fun c => (h.1 c).2, h.2⟩) (Cert.Kernel.Exchange.run_value (F := Bits) m ρ)

/-- The idealized kernel's, from any memory, -/
theorem frame_ideal : Cert.quiescent_KernelIdeal := fun m ρ _ =>
  (θ_run Cert.KernelIdeal.defs _ _).mono (fun _ h => ⟨fun c => (h.1 c).2, h.2⟩) (Cert.KernelIdeal.Exchange.run_value (F := Ideal) m ρ)

/-- and so from one that fits. -/
theorem frame_ideal_fits : Cert.quiescent_KernelIdeal_pre_fits_KernelIdeal := fun m ρ _ => frame_ideal m ρ trivial

/-- The reference's: it has no counter. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_fits : Cert.quiescent_ReferenceIdeal_pre_fits_ReferenceIdeal := fun m ρ _ => frame_ref m ρ trivial

/-- The two results agree: each run ends in its closed form, and the kernel's blocks are the reference's. -/
theorem agree : Cert.algebraic_KernelIdeal_ReferenceIdeal_pre_fits_KernelIdeal := fun m ρ m' ρ' hpre hin =>
  ⟨Cert.ReferenceIdeal.Value.res_main_v113 m' 0,
    (θ_run Cert.KernelIdeal.defs _ _).mono
      (fun _ h c => ⟨(h.1 c).1.trans (Cert.Agree.blocks_eq m m' hpre hin c), (h.1 c).2⟩)
      (Cert.KernelIdeal.Exchange.run_value (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts,
  frame_kernel, frame_ideal, frame_ideal_fits, frame_ref, frame_ref_fits, trivial, agree⟩

end Cert.Proof

end
